-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S8192x256 : Shape := ⟨2, ![8192, 256]⟩
abbrev S1x1 : Shape := ⟨2, ![1, 1]⟩
abbrev S16384x256 : Shape := ⟨2, ![16384, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x1x256 : Shape := ⟨3, ![1, 1, 256]⟩
abbrev S1 : Shape := ⟨1, ![1]⟩
abbrev S1x1x1 : Shape := ⟨3, ![1, 1, 1]⟩
abbrev S1x256x256 : Shape := ⟨3, ![1, 256, 256]⟩
abbrev S_ : Shape := ⟨0, ![]⟩

abbrev nBuf : Space → Nat
  | .hbm => 4
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S8192x256, .f32⟩
  | .hbm, ⟨2, _⟩ => ⟨S1x1, .f32⟩
  | .hbm, ⟨3, _⟩ => ⟨S_, .f32⟩
  | .local _ .vmem, ⟨0, _⟩ => ⟨S16384x256, .f32⟩
  | .local _ .vmem, ⟨1, _⟩ => ⟨S16384x256, .f32⟩
  | .local _ .vmem, ⟨2, _⟩ => ⟨S8192x256, .f32⟩
  | .local _ .vmem, ⟨3, _⟩ => ⟨S1x1, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S65536x256 : Shape := ⟨2, ![65536, 256]⟩
abbrev S8192x256 : Shape := ⟨2, ![8192, 256]⟩
abbrev S_ : Shape := ⟨0, ![]⟩
abbrev S256 : Shape := ⟨1, ![256]⟩
abbrev S1x256 : Shape := ⟨2, ![1, 256]⟩
abbrev S256x65536 : Shape := ⟨2, ![256, 65536]⟩
abbrev S256x256 : Shape := ⟨2, ![256, 256]⟩
abbrev S256x8192 : Shape := ⟨2, ![256, 8192]⟩

abbrev nBuf : Space → Nat
  | .hbm => 184
  | .vmem => 0
  | .smem => 0
  | _ => 0

abbrev hbmTy0_0 (i : Nat) : BufTy := match i % 128 with
  | 0 => ⟨S65536x256, .f32⟩
  | 1 => ⟨S8192x256, .f32⟩
  | 2 => ⟨S_, .f32⟩
  | 3 => ⟨S256, .f32⟩
  | 4 => ⟨S_, .f32⟩
  | 5 => ⟨S256, .f32⟩
  | 6 => ⟨S256, .f32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S65536x256, .f32⟩
  | 14 => ⟨S65536x256, .f32⟩
  | 15 => ⟨S256x65536, .f32⟩
  | 16 => ⟨S256x256, .f32⟩
  | 17 => ⟨S_, .f32⟩
  | 18 => ⟨S256x256, .f32⟩
  | 19 => ⟨S256x256, .f32⟩
  | 20 => ⟨S_, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S1x256, .f32⟩
  | 28 => ⟨S_, .f32⟩
  | 29 => ⟨S1x256, .f32⟩
  | 30 => ⟨S1x256, .f32⟩
  | 31 => ⟨S8192x256, .f32⟩
  | 32 => ⟨S8192x256, .f32⟩
  | 33 => ⟨S256x8192, .f32⟩
  | 34 => ⟨S256x256, .f32⟩
  | 35 => ⟨S_, .f32⟩
  | 36 => ⟨S256x256, .f32⟩
  | 37 => ⟨S256x256, .f32⟩
  | 38 => ⟨S256, .f32⟩
  | 39 => ⟨S256, .f32⟩
  | 40 => ⟨S256, .f32⟩
  | 41 => ⟨S_, .f32⟩
  | 42 => ⟨S_, .f32⟩
  | 43 => ⟨S256x256, .f32⟩
  | 44 => ⟨S256x256, .i32⟩
  | 45 => ⟨S_, .i32⟩
  | 46 => ⟨S256x256, .i32⟩
  | 47 => ⟨S256x256, .i32⟩
  | 48 => ⟨S256x256, .i32⟩
  | 49 => ⟨S256x256, .i1⟩
  | 50 => ⟨S_, .f32⟩
  | 51 => ⟨S256x256, .f32⟩
  | 52 => ⟨S256x256, .f32⟩
  | 53 => ⟨S256x256, .i32⟩
  | 54 => ⟨S_, .i32⟩
  | 55 => ⟨S256x256, .i32⟩
  | 56 => ⟨S256x256, .i32⟩
  | 57 => ⟨S256x256, .i32⟩
  | 58 => ⟨S256x256, .i1⟩
  | 59 => ⟨S_, .f32⟩
  | 60 => ⟨S256x256, .f32⟩
  | 61 => ⟨S256x256, .f32⟩
  | 62 => ⟨S256x256, .f32⟩
  | 63 => ⟨S256x256, .f32⟩
  | 64 => ⟨S256x256, .f32⟩
  | 65 => ⟨S_, .f32⟩
  | 66 => ⟨S256, .f32⟩
  | 67 => ⟨S_, .f32⟩
  | 68 => ⟨S_, .f32⟩
  | 69 => ⟨S256x256, .i32⟩
  | 70 => ⟨S256x256, .i32⟩
  | 71 => ⟨S_, .i32⟩
  | 72 => ⟨S256x256, .i32⟩
  | 73 => ⟨S256x256, .i32⟩
  | 74 => ⟨S256x256, .i1⟩
  | 75 => ⟨S256x256, .f32⟩
  | 76 => ⟨S256x256, .f32⟩
  | 77 => ⟨S256x256, .f32⟩
  | 78 => ⟨S_, .f32⟩
  | 79 => ⟨S256x256, .f32⟩
  | 80 => ⟨S256x256, .f32⟩
  | 81 => ⟨S256x256, .f32⟩
  | 82 => ⟨S256x256, .f32⟩
  | 83 => ⟨S256x256, .f32⟩
  | 84 => ⟨S256x256, .f32⟩
  | 85 => ⟨S_, .f32⟩
  | 86 => ⟨S256x256, .f32⟩
  | 87 => ⟨S256x256, .f32⟩
  | 88 => ⟨S_, .f32⟩
  | 89 => ⟨S256x256, .f32⟩
  | 90 => ⟨S256x256, .f32⟩
  | 91 => ⟨S256x256, .f32⟩
  | 92 => ⟨S256x256, .f32⟩
  | 93 => ⟨S256x256, .f32⟩
  | 94 => ⟨S256x256, .f32⟩
  | 95 => ⟨S_, .f32⟩
  | 96 => ⟨S256x256, .f32⟩
  | 97 => ⟨S256x256, .f32⟩
  | 98 => ⟨S_, .f32⟩
  | 99 => ⟨S256x256, .f32⟩
  | 100 => ⟨S256x256, .f32⟩
  | 101 => ⟨S256x256, .f32⟩
  | 102 => ⟨S256x256, .f32⟩
  | 103 => ⟨S256x256, .f32⟩
  | 104 => ⟨S256x256, .f32⟩
  | 105 => ⟨S_, .f32⟩
  | 106 => ⟨S256x256, .f32⟩
  | 107 => ⟨S256x256, .f32⟩
  | 108 => ⟨S_, .f32⟩
  | 109 => ⟨S256x256, .f32⟩
  | 110 => ⟨S256x256, .f32⟩
  | 111 => ⟨S256x256, .f32⟩
  | 112 => ⟨S256x256, .f32⟩
  | 113 => ⟨S256x256, .f32⟩
  | 114 => ⟨S256x256, .f32⟩
  | 115 => ⟨S_, .f32⟩
  | 116 => ⟨S256x256, .f32⟩
  | 117 => ⟨S256x256, .f32⟩
  | 118 => ⟨S_, .f32⟩
  | 119 => ⟨S256x256, .f32⟩
  | 120 => ⟨S256x256, .f32⟩
  | 121 => ⟨S256x256, .f32⟩
  | 122 => ⟨S256x256, .f32⟩
  | 123 => ⟨S256x256, .f32⟩
  | 124 => ⟨S256x256, .f32⟩
  | 125 => ⟨S_, .f32⟩
  | 126 => ⟨S256x256, .f32⟩
  | 127 => ⟨S256x256, .f32⟩
  | _ => ⟨S65536x256, .f32⟩

abbrev hbmTy0_1 (i : Nat) : BufTy := match i % 128 with
  | 0 => ⟨S_, .f32⟩
  | 1 => ⟨S256x256, .f32⟩
  | 2 => ⟨S256x256, .f32⟩
  | 3 => ⟨S256x256, .f32⟩
  | 4 => ⟨S256x256, .f32⟩
  | 5 => ⟨S256x256, .f32⟩
  | 6 => ⟨S256x256, .f32⟩
  | 7 => ⟨S_, .f32⟩
  | 8 => ⟨S256x256, .f32⟩
  | 9 => ⟨S256x256, .f32⟩
  | 10 => ⟨S_, .f32⟩
  | 11 => ⟨S256x256, .f32⟩
  | 12 => ⟨S256x256, .f32⟩
  | 13 => ⟨S256x256, .f32⟩
  | 14 => ⟨S256x256, .f32⟩
  | 15 => ⟨S256x256, .f32⟩
  | 16 => ⟨S256x256, .f32⟩
  | 17 => ⟨S_, .f32⟩
  | 18 => ⟨S256x256, .f32⟩
  | 19 => ⟨S256x256, .f32⟩
  | 20 => ⟨S_, .f32⟩
  | 21 => ⟨S256x256, .f32⟩
  | 22 => ⟨S256x256, .f32⟩
  | 23 => ⟨S256x256, .f32⟩
  | 24 => ⟨S256x256, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S256x256, .f32⟩
  | 34 => ⟨S256x256, .f32⟩
  | 35 => ⟨S_, .f32⟩
  | 36 => ⟨S256x256, .f32⟩
  | 37 => ⟨S256x256, .f32⟩
  | 38 => ⟨S256x256, .f32⟩
  | 39 => ⟨S256x256, .i32⟩
  | 40 => ⟨S256x256, .i32⟩
  | 41 => ⟨S_, .i32⟩
  | 42 => ⟨S256x256, .i32⟩
  | 43 => ⟨S256x256, .i32⟩
  | 44 => ⟨S256x256, .i1⟩
  | 45 => ⟨S_, .f32⟩
  | 46 => ⟨S256x256, .f32⟩
  | 47 => ⟨S256x256, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_cst : Ref sig .tc := ⟨.hbm, 50, rfl⟩
abbrev main_call0_v5 : Ref sig .tc := ⟨.hbm, 51, rfl⟩
abbrev main_v31 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_cst : Ref sig .tc := ⟨.hbm, 59, rfl⟩
abbrev main_call1_v5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_10 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_17 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_19 : Ref sig .tc := ⟨.hbm, 115, rfl⟩
abbrev main_v76 : Ref sig .tc := ⟨.hbm, 116, rfl⟩
abbrev main_v77 : Ref sig .tc := ⟨.hbm, 117, rfl⟩
abbrev main_cst_20 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_21 : Ref sig .tc := ⟨.hbm, 125, rfl⟩
abbrev main_v84 : Ref sig .tc := ⟨.hbm, 126, rfl⟩
abbrev main_v85 : Ref sig .tc := ⟨.hbm, 127, rfl⟩
abbrev main_cst_22 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_23 : Ref sig .tc := ⟨.hbm, 135, rfl⟩
abbrev main_v92 : Ref sig .tc := ⟨.hbm, 136, rfl⟩
abbrev main_v93 : Ref sig .tc := ⟨.hbm, 137, rfl⟩
abbrev main_cst_24 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_25 : Ref sig .tc := ⟨.hbm, 145, rfl⟩
abbrev main_v100 : Ref sig .tc := ⟨.hbm, 146, rfl⟩
abbrev main_v101 : Ref sig .tc := ⟨.hbm, 147, rfl⟩
abbrev main_cst_26 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_27 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_28 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_call2_v0 : Ref sig .tc := ⟨.hbm, 167, rfl⟩
abbrev main_call2_v1 : Ref sig .tc := ⟨.hbm, 168, rfl⟩
abbrev main_call2_c : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_cst : Ref sig .tc := ⟨.hbm, 173, rfl⟩
abbrev main_call2_v5 : Ref sig .tc := ⟨.hbm, 174, rfl⟩
abbrev main_call2_v6 : Ref sig .tc := ⟨.hbm, 175, rfl⟩
abbrev main_call2_cst_0 : Ref sig .tc := ⟨.hbm, 176, rfl⟩
abbrev main_v118 : Ref sig .tc := ⟨.hbm, 177, rfl⟩
abbrev main_call3_cst : Ref sig .tc := ⟨.hbm, 178, rfl⟩
abbrev main_v119 : Ref sig .tc := ⟨.hbm, 179, rfl⟩
abbrev main_v120 : Ref sig .tc := ⟨.hbm, 180, rfl⟩
abbrev main_cst_29 : Ref sig .tc := ⟨.hbm, 181, rfl⟩
abbrev main_v121 : Ref sig .tc := ⟨.hbm, 182, rfl⟩
abbrev main_v122 : Ref sig .tc := ⟨.hbm, 183, rfl⟩

abbrev nD : Nat := 1
abbrev τ : Topo := Topo.v7x

variable {F : FTy → Type} [FloatOps F]
-- ==== Proof.KernelCases.lean ====
/-
  What one grid point leaves behind, as values of what it was given: the block of `z`, the codebook, and the four
  scratch arrays carried from point to point (`zᵀz`, `Σ z`, `cᵀc`, `Σ c`).

    first point   the scratches end at the first block's sums over zeros and at the codebook's sums;
    later points  the two `z` scratches grow by the block's sums, the two codebook scratches are kept;
    last point    besides, the one result word is written (`finish`).
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- The last point's arithmetic on the four finished sums: the covariances, the Newton–Schulz steps and the final word. -/
def finish (zt : Vec F S256x256 .f32) (zs : Vec F S1x256 .f32) (ct : Vec F S256x256 .f32) (cs : Vec F S1x256 .f32) : F .f32 :=
  let v61 : IVec S256x256 32 := iota .tc S256x256 32 [0] iota_S256x256_d0_w32
  let v62 : IVec S256x256 32 := iota .tc S256x256 32 [1] iota_S256x256_d1_w32
  let v60 := k0_pay13 zs cs zt ct
  let v63 := k0_pay14
  let v77 := k0_pay18 (F := F) v61 v62
  let v108 := k0_pay20 v60 v61 v62 v63
  let v109 := k0_pay21 v60 v61 v62 v63
  let v111 := k0_pay22 v60 v61 v62 v63
  let v152 := k0_pay25 v77 v108 v109 v111
  let v153 := k0_pay26 v77 v108 v109 v111
  let v156 := k0_pay27 v77 v108 v109 v111
  let v157 := k0_pay28 v77 v109 v111
  let v160 := k0_pay29 v77 v109 v111
  let v196 := k0_pay32 v77 v152 v153 v156 v157 v160
  let v200 := k0_pay34 v77 v152 v153 v156 v157 v160
  let v201 := k0_pay35 v153 v156 v157 v160
  let v207 := k0_pay36 v77 v152 v153 v156 v157 v160
  let v240 := k0_pay39 v77 v196 v200 v201 v207
  let v253 := k0_pay40 v77 v196 v200 v201 v207
  let v254 := k0_pay41 (F := F)
  let v284 := k0_pay43 v77 v240 v253 v254
  let v297 := k0_pay44 v77 v240 v253 v254
  let v299 := k0_pay45 v77
  let v300 := k0_pay46 v77 v240 v253 v254
  let v303 := k0_pay47 v77 v240 v253 v254
  let v328 := k0_pay49 v284 v299 v300 v303
  let v341 := k0_pay50 v284 v297 v299 v300 v303
  let v343 := k0_pay51 v77
  let v344 := k0_pay52 v284 v297 v299 v300 v303
  let v347 := k0_pay53 v284 v297 v299 v300 v303
  let v348 := k0_pay54 v284 v299 v300 v303
  let v351 := k0_pay55 v284 v299 v300 v303
  let c99 : FVec F S256x256 .f32 := constant S256x256 .f32 0x00000000#32
  k0_pay64 (k0_pay10 zs zt) (k0_pay11 cs ct) (k0_pay12 zs cs) v61 v62 (k0_pay16 v60 v63)
    (k0_pay57 v328 v343 v344 v347 v348 v351 c99) (k0_pay59 v77) (k0_pay61 v341 v343 v344 v347 v348 v351 c99)
    (k0_pay62 v328 v343 v344 v347 v348 v351 c99) (k0_pay63 v328 v341 v343 v344 v347 v348 v351 c99)
    (constant S256x256 .f32 0x00000000#32)

section

variable (c : Dev nD) (i : grid0.Coords)
  (a1 : Memref sig .tc .vmem S16384x256 .f32) (h1 : a1.IsWhole) (a2 : Memref sig .tc .vmem S8192x256 .f32) (h2 : a2.IsWhole)
  (a3 : Memref sig .tc .vmem S1x1 .f32) (h3 : a3.IsWhole) (a4 : Memref sig .tc .vmem S256x256 .f32) (h4 : a4.IsWhole)
  (a5 : Memref sig .tc .vmem S1x256 .f32) (h5 : a5.IsWhole) (a6 : Memref sig .tc .vmem S256x256 .f32) (h6 : a6.IsWhole)
  (a7 : Memref sig .tc .vmem S1x256 .f32) (h7 : a7.IsWhole)
  (x0 : Vec F S16384x256 .f32) (x1 : Vec F S8192x256 .f32)
  (s0 : Vec F S256x256 .f32) (s1 : Vec F S1x256 .f32) (s2 : Vec F S256x256 .f32) (s3 : Vec F S1x256 .f32)

/-- First point, `zᵀz`: the block's product over the zero array. -/
theorem zt_first (hc0 : cond0_0 i) (hc1 : ¬cond0_1 i) :
    sout0_A_0 c i a1 h1 a2 h2 a3 h3 a4 h4 a5 h5 a6 h6 a7 h7 hc0 hc1 x0 x1 = k0_pay5 x0 k0_pay3 := by
  unfold sout0_A_0
  rw [View.read_writes_eq_canon _ _ _ (scover0_A_0 c i a1 h1 a2 h2 a3 h3 a4 h4 a5 h5 a6 h6 a7 h7 hc0 hc1 x0 x1)]
  unfold kernelRun0_A
  dsimp only
  sl_unfold_words
  rw [View.canon_cons_unit_zero (S := S256x256) hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]

/-- First point, `Σ z`: the block's column sums over the zero row. -/
theorem zs_first (hc0 : cond0_0 i) (hc1 : ¬cond0_1 i) :
    sout0_A_1 c i a1 h1 a2 h2 a3 h3 a4 h4 a5 h5 a6 h6 a7 h7 hc0 hc1 x0 x1 = k0_pay6 x0 k0_pay4 := by
  unfold sout0_A_1
  rw [View.read_writes_eq_canon _ _ _ (scover0_A_1 c i a1 h1 a2 h2 a3 h3 a4 h4 a5 h5 a6 h6 a7 h7 hc0 hc1 x0 x1)]
  unfold kernelRun0_A
  dsimp only
  sl_unfold_words
  rw [View.canon_cons_unit_zero (S := S1x256) hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]

/-- First point, `cᵀc`: the codebook's product. -/
theorem ct_first (hc0 : cond0_0 i) (hc1 : ¬cond0_1 i) :
    sout0_A_2 c i a1 h1 a2 h2 a3 h3 a4 h4 a5 h5 a6 h6 a7 h7 hc0 hc1 x0 x1 = k0_pay1 x1 := by
  unfold sout0_A_2
  rw [View.read_writes_eq_canon _ _ _ (scover0_A_2 c i a1 h1 a2 h2 a3 h3 a4 h4 a5 h5 a6 h6 a7 h7 hc0 hc1 x0 x1)]
  unfold kernelRun0_A
  dsimp only
  sl_unfold_words
  rw [View.canon_unit_zero hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]

/-- First point, `Σ c`: the codebook's column sums. -/
theorem cs_first (hc0 : cond0_0 i) (hc1 : ¬cond0_1 i) :
    sout0_A_3 c i a1 h1 a2 h2 a3 h3 a4 h4 a5 h5 a6 h6 a7 h7 hc0 hc1 x0 x1 = k0_pay2 x1 := by
  unfold sout0_A_3
  rw [View.read_writes_eq_canon _ _ _ (scover0_A_3 c i a1 h1 a2 h2 a3 h3 a4 h4 a5 h5 a6 h6 a7 h7 hc0 hc1 x0 x1)]
  unfold kernelRun0_A
  dsimp only
  sl_unfold_words
  rw [View.canon_unit_zero hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]

/-- A middle point, `zᵀz`: the block's product over what was there. -/
theorem zt_middle (hc0 : ¬cond0_0 i) (hc1 : ¬cond0_1 i) :
    sout0_B_0 c i a1 h1 a2 h2 a3 h3 a4 h4 a5 h5 a6 h6 a7 h7 hc0 hc1 x0 x1 s0 s1 s2 s3 = k0_pay5 x0 s0 := by
  unfold sout0_B_0
  rw [View.read_writes_eq_canon _ _ _ (scover0_B_0 c i a1 h1 a2 h2 a3 h3 a4 h4 a5 h5 a6 h6 a7 h7 hc0 hc1 x0 x1 s0 s1 s2 s3)]
  unfold kernelRun0_B
  dsimp only
  sl_unfold_words
  rw [View.canon_unit_zero hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]

/-- A middle point, `Σ z`: the block's column sums over what was there. -/
theorem zs_middle (hc0 : ¬cond0_0 i) (hc1 : ¬cond0_1 i) :
    sout0_B_1 c i a1 h1 a2 h2 a3 h3 a4 h4 a5 h5 a6 h6 a7 h7 hc0 hc1 x0 x1 s0 s1 s2 s3 = k0_pay6 x0 s1 := by
  unfold sout0_B_1
  rw [View.read_writes_eq_canon _ _ _ (scover0_B_1 c i a1 h1 a2 h2 a3 h3 a4 h4 a5 h5 a6 h6 a7 h7 hc0 hc1 x0 x1 s0 s1 s2 s3)]
  unfold kernelRun0_B
  dsimp only
  sl_unfold_words
  rw [View.canon_unit_zero hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]

/-- A middle point keeps `cᵀc`. -/
theorem ct_middle (hc0 : ¬cond0_0 i) (hc1 : ¬cond0_1 i) :
    sout0_B_2 c i a1 h1 a2 h2 a3 h3 a4 h4 a5 h5 a6 h6 a7 h7 hc0 hc1 x0 x1 s0 s1 s2 s3 = s2 := rfl

/-- A middle point keeps `Σ c`. -/
theorem cs_middle (hc0 : ¬cond0_0 i) (hc1 : ¬cond0_1 i) :
    sout0_B_3 c i a1 h1 a2 h2 a3 h3 a4 h4 a5 h5 a6 h6 a7 h7 hc0 hc1 x0 x1 s0 s1 s2 s3 = s3 := rfl

/-- The last point's result word: `finish` of the four finished sums. -/
theorem out_last (hc0 : ¬cond0_0 i) (hc1 : cond0_1 i) :
    out0_C_2 c i a1 h1 a2 h2 a3 h3 a4 h4 a5 h5 a6 h6 a7 h7 hc0 hc1 x0 x1 s0 s1 s2 s3
      = k0_pay7 (finish (k0_pay5 x0 s0) (k0_pay6 x0 s1) s2 s3) := by
  unfold out0_C_2
  rw [View.read_writes_eq_canon _ _ _ (cover0_C_2 c i a1 h1 a2 h2 a3 h3 a4 h4 a5 h5 a6 h6 a7 h7 hc0 hc1 x0 x1 s0 s1 s2 s3)]
  unfold kernelRun0_C
  dsimp only
  sl_unfold_words
  rw [View.canon_unit_zero hz]
  simp only [View.readAt_eq_ld, h1.read_unread, h2.read_unread, h4.read_unread, h5.read_unread, h6.read_unread, h7.read_unread,
    View.ld_unit_zero (S := S16384x256) hz, View.ld_unit_zero (S := S8192x256) hz, View.ld_unit_zero (S := S256x256) hz,
    View.ld_unit_zero (S := S1x256) hz, View.readCov_unit_zero (S := S256x256) _ hz, View.readCov_unit_zero (S := S1x256) _ hz]
  rfl

end

end Cert.KernelIdeal.Cases

end
-- ==== Proof.KernelValue.lean ====
/-
  The kernel's one result word, in full: the four sums after the last block of `z`, put through `finish`.
  The grid is walked once by induction on the point; the result array has one element, written at the last point,
  and the program's result is that element.
-/
module

public import proofs.«01_k».proof.Proof.KernelCases
public import Idealize.ShloMosaic.Lib.StableHlo.Run

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Cases

variable {F : FTy → Type} [FloatOps F]
variable (m : (ℓ : Loc nD τ sig) → Buf (Elt F) ℓ) (ρ : Dev nD → PrngReg)

/-- Block `n` of `z`: its rows `16384 n … 16384 n + 16383`. -/
def zBlock (c : Dev nD) (n : ℕ) (h : n < cfg0.N) : Vec F S16384x256 .f32 := iblk m c 0 ⟨n, h⟩

theorem pos_N : 0 < cfg0.N := by rw [show cfg0.N = 4 from N_0]; decide

/-- The codebook, as the first point finds it. -/
def cBlock (c : Dev nD) : Vec F S8192x256 .f32 := iblk m c 1 ⟨0, pos_N⟩

/-- `zᵀz` over the blocks `0 … n`, added in order. -/
def ztAt (c : Dev nD) : (n : ℕ) → n < cfg0.N → Vec F S256x256 .f32
  | 0, h => k0_pay5 (zBlock m c 0 h) k0_pay3
  | n + 1, h => k0_pay5 (zBlock m c (n + 1) h) (ztAt c n (Nat.lt_of_succ_lt h))

/-- `Σ z` over the blocks `0 … n`, added in order. -/
def zsAt (c : Dev nD) : (n : ℕ) → n < cfg0.N → Vec F S1x256 .f32
  | 0, h => k0_pay6 (zBlock m c 0 h) k0_pay4
  | n + 1, h => k0_pay6 (zBlock m c (n + 1) h) (zsAt c n (Nat.lt_of_succ_lt h))

/-- Before the last point, the scratches hold the sums over the blocks seen so far and the codebook's sums. -/
theorem scratches (c : Dev nD) : ∀ (n : ℕ) (h : n < cfg0.N), n < 3 →
    (outsAt0 m c n h).2 = (ztAt m c n h, zsAt m c n h, k0_pay1 (cBlock m c), k0_pay2 (cBlock m c))
  | 0, h, _ => by
    rw [outsAt0_A m c ⟨0, h⟩ rfl (by show ¬(0 % 4 = 3); decide)]
    dsimp only
    rw [zt_first, zs_first, ct_first, cs_first]
    rfl
  | n + 1, h, hn => by
    have ih := scratches c n (Nat.lt_of_succ_lt h) (by omega)
    rw [outsAt0_B m c ⟨n + 1, h⟩ (by dsimp only; omega) (by dsimp only; omega)]
    dsimp only
    rw [zt_middle, zs_middle, ct_middle, cs_middle]
    simp only [Nat.add_sub_cancel, ih]
    rfl

theorem three_lt : 3 < cfg0.N := by rw [show cfg0.N = 4 from N_0]; decide

/-- The result word. -/
def word (c : Dev nD) : F .f32 :=
  finish (ztAt m c 3 three_lt) (zsAt m c 3 three_lt) (k0_pay1 (cBlock m c)) (k0_pay2 (cBlock m c))

/-- The last point leaves the result word in the output block. -/
theorem last_block (c : Dev nD) : (outsAt0 m c 3 three_lt).1 = k0_pay7 (word m c) := by
  have ih := scratches m c 2 (by rw [show cfg0.N = 4 from N_0]; decide) (by decide)
  rw [outsAt0_C m c ⟨3, three_lt⟩ (by decide) rfl]
  dsimp only
  rw [out_last]
  simp only [show 3 - 1 = 2 from rfl, ih]
  rfl

/-- The one-element result array. -/
abbrev resultArr (c : Dev nD) : Buf (Elt F) ((c : Thread nD τ).loc main_v0) := k0_pay7 (word m c)

theorem flushed_eq (c : Dev nD) (t : Fin cfg0.N) (hf : (cfg0.win 2).flush t = true) :
    (dats m 0 c).flushed 2 t = ((cfg0.win 2).blk t).view.read (Elt F) (resultArr m c) := by
  have hN : cfg0.N = 4 := N_0
  have h3 : t.val = 3 := by have := (flush0_2 t).mp hf; have := t.isLt; omega
  obtain rfl : t = ⟨3, three_lt⟩ := Fin.ext h3
  show (cfg0.win 2).cut (grid0.coords ⟨3, three_lt⟩) ((dats m 0 c).after 2 ⟨3, three_lt⟩) = _
  rw [after0_2]
  show (cfg0.win 2).cut (grid0.coords ⟨3, three_lt⟩) ((outsAt0 m c 3 three_lt).1) = _
  rw [last_block]
  rfl

/-- The result array ends holding the result word. -/
theorem final_arr (c : Dev nD) : (dats m 0 c).arrAt 2 cfg0.N = resultArr m c :=
  (dats m 0 c).arrAt_eq_of_cover 2 (resultArr m c) (flushed_eq m c) fun i =>
    ⟨⟨3, three_lt⟩, (flush0_2 _).mpr rfl, by
      show i ∈ ((View.whole main_v0).slice (win0_2.rect ⟨3, three_lt⟩)).set
      rw [View.set_slice_whole, Rect.mem_set_unit]
      intro a
      have h0 : (i 0 : Nat) < 1 := (i 0).isLt
      have h1 : (i 1 : Nat) < 1 := (i 1).isLt
      match a with
      | ⟨0, _⟩ => show win0_2.index _ 0 * 1 ≤ (i 0 : Nat) ∧ (i 0 : Nat) < win0_2.index _ 0 * 1 + 1
                  rw [show win0_2.index ⟨3, three_lt⟩ 0 = 0 from by decide +kernel]; omega
      | ⟨1, _⟩ => show win0_2.index _ 1 * 1 ≤ (i 1 : Nat) ∧ (i 1 : Nat) < win0_2.index _ 1 * 1 + 1
                  rw [show win0_2.index ⟨3, three_lt⟩ 1 = 0 from by decide +kernel]; omega⟩

/-- The windows' arrays are three different buffers. -/
theorem arr_inj : Function.Injective (Pipeline.arrRef spec0) := by decide

/-- After the region the program reads the result array's one element. -/
theorem tail_eq (c : Dev nD) :
    Pipeline.afterTail₀ cfgs (dats m) 0 (V0 m) [hostOps1] c main_v1 = broadcast S_ (word m c) := by
  unfold Pipeline.afterTail₀
  show StableHlo.after hostOps1 (Pipeline.withArrays (cfgs 0).spec c (V0 m c) fun w => (dats m 0 c).arrAt w (cfgs 0).N) (Proc.devRef .tc main_v1) = _
  dsimp only [hostOps1]
  after_results
  have e := (Pipeline.withArrays_arr (cfgs 0).spec arr_inj c (V0 m c) (fun w => (dats m 0 c).arrAt w (cfgs 0).N) 2).trans (final_arr m c)
  funext i
  exact congrFun (congrArg (fun v : FVec F S1x1 .f32 => shapeCast S_ v shapeCasts_S1x1_S_) e) i

/-- The run: the result holds the result word, the arguments are as launched. -/
theorem run : θ_run defs (onTc (τ := τ) (main (F := F))) ⟨m, fun _ => 0, ρ⟩ fun r => ∀ c : Dev nD,
      r.2.mem ((c : Thread nD τ).loc main_v1) = broadcast S_ (word m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (by decide)).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Value

end
-- ==== Proof.KernelShape.lean ====
/-
  The last point's arithmetic in plain shape: a product in split precision (`mm`), one Newton–Schulz step (`nsT`,
  `nsStep`), eight of them, and the final word. `finish`, cut as the program is printed, is this word (`finish_eq`).
-/
module

public import proofs.«01_k».proof.Proof.KernelCases

@[expose] public section

noncomputable section

open Idealize.ShloMosaic Idealize.ShloMosaic.TcCoe Idealize.SL.Sem

namespace Cert.KernelIdeal.Shape

open Cert.KernelIdeal Cert.KernelIdeal.Gen Cert.KernelIdeal.Cases

variable {F : FTy → Type} [FloatOps F]

/-- The 256 × 256 matrices of f32. -/
abbrev Sq (F : FTy → Type) := FVec F S256x256 .f32

/-- The part of `A` that rounding to bf16 keeps. -/
def hi (A : Sq F) : FVec F S256x256 .bf16 := truncf .bf16 A bitsLt_bf16_f32

/-- What is left of `A`, itself rounded to bf16. -/
def lo (A : Sq F) : FVec F S256x256 .bf16 := truncf .bf16 (subf A (extf .f32 (hi A) bitsLt_bf16_f32)) bitsLt_bf16_f32

/-- One matrix product of bf16 operands from zero. -/
def mat (A B : FVec F S256x256 .bf16) : Sq F :=
  matmul dot_S256x256_S256x256_S256x256_1_0_0_1_n_n none A B (constant S256x256 .f32 0x00000000#32)

/-- The product in split precision: high by high, high by low, low by high. -/
def mm (A B : Sq F) : Sq F := addf (addf (mat (hi A) (hi B)) (mat (hi A) (lo B))) (mat (lo A) (hi B))

/-- The row number at each place. -/
def rowNo : IVec S256x256 32 := iota .tc S256x256 32 [0] iota_S256x256_d0_w32

/-- The column number at each place. -/
def colNo : IVec S256x256 32 := iota .tc S256x256 32 [1] iota_S256x256_d1_w32

/-- The identity matrix. -/
def eye : Sq F := select (cmpi .eq rowNo colNo) (broadcast S256x256 (Scalar.ofBits .f32 0x3F800000#32)) (broadcast S256x256 (Scalar.ofBits .f32 0x00000000#32))

/-- `1.5 I − 0.5 Z Y`. -/
def nsT (Y Z : Sq F) : Sq F :=
  subf (mulf (broadcast S256x256 (Scalar.ofBits .f32 0x3FC00000#32)) eye)
    (mulf (broadcast S256x256 (Scalar.ofBits .f32 0x3F000000#32)) (mm Z Y))

/-- One step: `Y ← Y T`, `Z ← T Z`. -/
def nsStep (s : Sq F × Sq F) : Sq F × Sq F := (mm s.1 (nsT s.1 s.2), mm (nsT s.1 s.2) s.2)

/-- The state after `n` steps from `Y = A`, `Z = I`. -/
def nsAt (A : Sq F) : ℕ → Sq F × Sq F
  | 0 => (A, eye)
  | n + 1 => nsStep (nsAt A n)

/-- The lower triangle of `P`, mirrored. -/
def symm (P : Sq F) : Sq F := select (cmpi .sle colNo rowNo) P (transpose S256x256 [1, 0] P transposes_S256x256_p1_0_S256x256)

/-- The largest absolute row sum. -/
def rowNorm (S : Sq F) : F .f32 :=
  extractAt ![0, 0] (shapeCast S1x1 (multiReduction .maximumf [1] S1
    (shapeCast S1x256 (multiReduction .add [1] S256 (absf S) 0x00000000#32 reduces_S256x256_S256 (.inl rfl) rfl) shapeCasts_S256_S1x256)
    0xFF800000#32 reduces_S1x256_S1 (.inl rfl) rfl) shapeCasts_S1_S1x1) inpos_S1x1_p0_0

/-- The sum of the diagonal. -/
def tr (A : Sq F) : F .f32 :=
  extractAt ![0, 0, 0] (shapeCast S1x1x1 (multiReduction .add [1, 2] S1
    (shapeCast S1x256x256 (select (cmpi .eq rowNo colNo) A (broadcast S256x256 (Scalar.ofBits .f32 0x00000000#32))) shapeCasts_S256x256_S1x256x256)
    0x00000000#32 reduces_S1x256x256_S1 (.inl rfl) rfl) shapeCasts_S1_S1x1x1) inpos_S1x1x1_p0_0_0

/-- The covariances' square root, scaled. -/
def root (P : Sq F) : Sq F := (nsAt (divf (symm P) (broadcast S256x256 (rowNorm (symm P)))) 8).1

/-- The result word of the two covariances and the squared distance of the means. -/
def wordOf (zc cc : Sq F) (pm : F .f32) : F .f32 :=
  Scalar.sqrt (Scalar.addf (Scalar.addf pm (Scalar.maximumf (Scalar.subf (tr (addf zc cc))
    (Scalar.mulf (Scalar.ofBits .f32 0x40000000#32) (Scalar.mulf (tr (root (mm zc cc))) (Scalar.sqrt (rowNorm (symm (mm zc cc)))))))
    (Scalar.ofBits .f32 0x00000000#32))) (Scalar.ofBits .f32 0x2EDBE6FF#32))

theorem finish_eq (zt : Vec F S256x256 .f32) (zs : Vec F S1x256 .f32) (ct : Vec F S256x256 .f32) (cs : Vec F S1x256 .f32) :
    finish zt zs ct cs = wordOf (k0_pay10 zs zt) (k0_pay11 cs ct) (k0_pay12 zs cs) := rfl

end Cert.KernelIdeal.Shape

end
-- ==== Proof.RealMath.lean ====
/-
  The mathematics over the real numbers: a covariance by raw moments and by centred vectors, and Newton's iteration
  for a matrix square root in the coupled and in the single form.
-/
module

public import Mathlib.Data.Matrix.Mul
public import Mathlib.Data.Real.Basic
public import Idealize.ShloMosaic.PureOps.Ideal.Laws

@[expose] public section

noncomputable section

namespace Cert.RealMath

/-- The 256 × 256 real matrices. -/
abbrev Mat := Matrix (Fin 256) (Fin 256) ℝ

/-- Newton's iteration for `a^(-1/2)`: `x ← ½ x (3 − a x²)` from the identity. -/
def xAt (a : Mat) : ℕ → Mat
  | 0 => 1
  | n + 1 => (1 / 2 : ℝ) • (xAt a n * ((3 : ℝ) • (1 : Mat) - a * (xAt a n * xAt a n)))

/-- One step of the coupled iteration: `t = 1.5 − 0.5 z y`, `y ← y t`, `z ← t z`. -/
def pairStep (s : Mat × Mat) : Mat × Mat :=
  let t : Mat := (3 / 2 : ℝ) • (1 : Mat) - (1 / 2 : ℝ) • (s.2 * s.1)
  (s.1 * t, t * s.2)

/-- The coupled iteration from `y = a`, `z = 1`. -/
def pairAt (a : Mat) : ℕ → Mat × Mat
  | 0 => (a, 1)
  | n + 1 => pairStep (pairAt a n)

/-- Every iterate is a polynomial in `a`, so it commutes with `a`. -/
theorem xAt_comm (a : Mat) (n : ℕ) : Commute a (xAt a n) := by
  induction n with
  | zero => exact Commute.one_right a
  | succ n ih =>
    refine Commute.smul_right (ih.mul_right ?_) _
    exact ((Commute.one_right a).smul_right _).sub_right ((Commute.refl a).mul_right (ih.mul_right ih))

/-- The coupled iteration holds `y = a x`, `z = x` for the single iteration's `x`. -/
theorem pairAt_eq (a : Mat) (n : ℕ) : pairAt a n = (a * xAt a n, xAt a n) := by
  induction n with
  | zero => simp [pairAt, xAt]
  | succ n ih =>
    have h : xAt a n * a = a * xAt a n := (xAt_comm a n).eq.symm
    have hz : xAt a n * (a * xAt a n) = a * (xAt a n * xAt a n) := by
      rw [← Matrix.mul_assoc, h, Matrix.mul_assoc]
    have hc : Commute (a * (xAt a n * xAt a n)) (xAt a n) :=
      (xAt_comm a n).mul_left ((Commute.refl _).mul_left (Commute.refl _))
    simp only [pairAt, pairStep, ih, hz, Prod.mk.injEq]
    have ht : (3 / 2 : ℝ) • (1 : Mat) - (1 / 2 : ℝ) • (a * (xAt a n * xAt a n))
        = (1 / 2 : ℝ) • ((3 : ℝ) • (1 : Mat) - a * (xAt a n * xAt a n)) := by
      rw [smul_sub, smul_smul]; norm_num
    rw [ht]
    refine ⟨?_, ?_⟩
    · rw [xAt, mul_smul_comm, mul_smul_comm, Matrix.mul_assoc]
    · rw [xAt, smul_mul_assoc]
      congr 1
      rw [sub_mul, mul_sub, hc.eq, smul_mul_assoc, mul_smul_comm, one_mul, mul_one]

/-- The mean of a column. -/
def mean {n : ℕ} (N : ℝ) (x : Fin n → Fin 256 → ℝ) (j : Fin 256) : ℝ := (∑ r, x r j) / N

/-- The covariance of centred vectors. -/
def cov {n : ℕ} (N : ℝ) (x : Fin n → Fin 256 → ℝ) : Mat :=
  Matrix.of fun i j => (∑ r, (x r i - mean N x i) * (x r j - mean N x j)) / N

/-- The covariance of centred vectors is the raw second moment less the product of the means. -/
theorem cov_eq {n : ℕ} (hn : n ≠ 0) (x : Fin n → Fin 256 → ℝ) (i j : Fin 256) :
    (∑ r, x r i * x r j) / (n : ℝ) - mean (n : ℝ) x i * mean (n : ℝ) x j = cov (n : ℝ) x i j := by
  have hN : (n : ℝ) ≠ 0 := by exact_mod_cast hn
  have e : ∀ r, (x r i - mean (n : ℝ) x i) * (x r j - mean (n : ℝ) x j)
      = x r i * x r j - x r i * mean (n : ℝ) x j - mean (n : ℝ) x i * x r j + mean (n : ℝ) x i * mean (n : ℝ) x j := fun r => by ring
  simp only [cov, Matrix.of_apply, e, Finset.sum_add_distrib, Finset.sum_sub_distrib, ← Finset.sum_mul, ← Finset.mul_sum,
    Finset.sum_const, Finset.card_univ, Fintype.card_fin, nsmul_eq_mul]
  simp only [mean]
  field_simp
  ring

/-- The lower triangle of a matrix, mirrored. -/
def sym (p : Mat) : Mat := Matrix.of fun i j => if j ≤ i then p i j else p j i

/-- The term under the square root that a covariance pair gives: `tr (zc + cc) − 2 √ν tr (a x)`. -/
def traceTerm (zc cc y : Mat) (s : ℝ) : ℝ := (∑ i, (zc i i + cc i i)) - 2 * ((∑ i, y i i) * s)

end Cert.RealMath

end
-- ==== Proof.ExtReal.lean ====
/-
  Extended reals that are real: sums, quotients, roots and maxima of real numbers are the real ones, and a sum, difference
  or square that is real has real terms.
-/
module

public import proofs.«01_k».proof.Proof.RealMath
public import Idealize.ShloMosaic.Lib.ValueIdx
public import Idealize.ShloMosaic.Lib.IdealHost

@[expose] public section

noncomputable section

namespace Cert.ExtReal

open Idealize.ShloMosaic Cert.RealMath

/-- `x` is a real number. -/
def IsReal (x : EReal) : Prop := ∃ r : ℝ, x = (r : EReal)

/-- A sum of reals, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real sum of two has real terms. -/
theorem real_of_add {a b : EReal} (h : IsReal (a + b)) : IsReal a ∧ IsReal b := by
  obtain ⟨r, hr⟩ := h
  induction a using EReal.rec <;> induction b using EReal.rec <;> first | exact ⟨⟨_, rfl⟩, ⟨_, rfl⟩⟩ | simp at hr

/-- A real difference has real terms. -/
theorem real_of_sub {a b : EReal} (h : IsReal (a - b)) : IsReal a ∧ IsReal b := by
  obtain ⟨r, hr⟩ := h
  induction a using EReal.rec <;> induction b using EReal.rec <;> first | exact ⟨⟨_, rfl⟩, ⟨_, rfl⟩⟩ | simp at hr

/-- A real sum over a finite set has real terms. -/
theorem real_of_sum {ι : Type} (s : Finset ι) (f : ι → EReal) (h : IsReal (∑ i ∈ s, f i)) : ∀ i ∈ s, IsReal (f i) := by
  classical
  induction s using Finset.induction_on with
  | empty => simp
  | insert a s ha ih =>
    rw [Finset.sum_insert ha] at h
    obtain ⟨h1, h2⟩ := real_of_add h
    intro i hi
    rcases Finset.mem_insert.1 hi with rfl | hi
    · exact h1
    · exact ih h2 i hi

/-- A square is not negative. -/
theorem sq_nonneg (x : EReal) : 0 ≤ x * x := by
  induction x using EReal.rec with
  | bot => simp
  | top => simp
  | coe r => rw [← EReal.coe_mul]; exact_mod_cast mul_self_nonneg r

/-- A square other than `⊤` is the square of a real. -/
theorem real_of_sq {x : EReal} (h : x * x ≠ ⊤) : IsReal x := by
  induction x using EReal.rec with
  | bot => simp at h
  | top => simp at h
  | coe r => exact ⟨r, rfl⟩

/-- A sum of squares other than `⊤` is over reals. -/
theorem real_of_sum_sq {ι : Type} [Fintype ι] (d : ι → EReal) (h : ∑ j, d j * d j ≠ ⊤) (j : ι) : IsReal (d j) := by
  refine real_of_sq fun e => h ?_
  have := Finset.single_le_sum (f := fun j => d j * d j) (fun i _ => sq_nonneg (d i)) (Finset.mem_univ j)
  exact top_le_iff.1 (by rw [← e]; exact this)

/-- A quotient by a real that is not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A real quotient by a positive real has a real numerator. -/
theorem real_of_div {x : EReal} {y : ℝ} (hy : 0 < y) (h : IsReal (Ideal.div x (y : EReal))) : IsReal x := by
  have hi : 0 < y⁻¹ := inv_pos.2 hy
  unfold Ideal.div at h
  rw [if_neg (by exact_mod_cast hy.ne'), ← EReal.coe_inv] at h
  obtain ⟨r, hr⟩ := h
  induction x using EReal.rec with
  | bot => rw [EReal.bot_mul_coe_of_pos hi] at hr; simp at hr
  | top => rw [EReal.top_mul_coe_of_pos hi] at hr; simp at hr
  | coe s => exact ⟨s, rfl⟩

/-- The root of a real that is not negative. -/
theorem sqrt_coe (x : ℝ) (hx : 0 ≤ x) : Ideal.sqrt (x : EReal) = ((Real.sqrt x : ℝ) : EReal) := by
  show (if x < 0 then _ else _) = _
  rw [if_neg (not_lt.2 hx)]

/-- The larger of a real and its negative is its absolute value. -/
theorem abs_coe (x : ℝ) : max (x : EReal) (-(x : EReal)) = ((|x| : ℝ) : EReal) := by
  rw [← EReal.coe_neg, abs_eq_max_neg]
  exact (EReal.coe_strictMono.monotone.map_max).symm

/-- An infinite part makes the whole sum infinite, whatever the other part, when that is cut at zero. -/
theorem top_add_max (k : EReal) (e : ℝ) : ((⊤ : EReal) + max k 0) + (e : EReal) = ⊤ := by
  rw [EReal.top_add_of_ne_bot, EReal.top_add_coe]
  exact fun h => absurd (le_max_right k 0) (by rw [h]; simp)

/-- The largest absolute row sum of a real matrix, from `−∞`. -/
def normE (s : Mat) : EReal := Finset.univ.fold max ⊥ fun i : Fin 256 => ((∑ j, |s i j| : ℝ) : EReal)

/-- It is one of the row sums. -/
theorem normE_mem (s : Mat) : ∃ i : Fin 256, normE s = ((∑ j, |s i j| : ℝ) : EReal) := by
  have key : ∀ t : Finset (Fin 256), t.Nonempty →
      ∃ i, t.fold max ⊥ (fun i : Fin 256 => ((∑ j, |s i j| : ℝ) : EReal)) = ((∑ j, |s i j| : ℝ) : EReal) := by
    intro t ht
    induction ht using Finset.Nonempty.cons_induction with
    | singleton a => exact ⟨a, by rw [Finset.fold_singleton]; exact max_bot_right _⟩
    | cons a t ha _ ih =>
      obtain ⟨i, hi⟩ := ih
      rw [Finset.fold_cons, hi]
      rcases max_choice ((∑ j, |s a j| : ℝ) : EReal) ((∑ j, |s i j| : ℝ) : EReal) with h | h
      · exact ⟨a, h⟩
      · exact ⟨i, h⟩
  exact key _ Finset.univ_nonempty

/-- The same as a real number. -/
def norm (s : Mat) : ℝ := (normE s).toReal

theorem normE_eq (s : Mat) : normE s = ((norm s : ℝ) : EReal) := by
  obtain ⟨i, hi⟩ := normE_mem s
  rw [norm, hi, EReal.toReal_coe]

theorem norm_nonneg (s : Mat) : 0 ≤ norm s := by
  obtain ⟨i, hi⟩ := normE_mem s
  rw [norm, hi, EReal.toReal_coe]
  exact Finset.sum_nonneg fun j _ => abs_nonneg _

/-- The normalised matrix `s / ν`. -/
def scaled (s : Mat) : Mat := Matrix.of fun i j => s i j / norm s

/-- The term of the distance that two covariances give: `tr (zc + cc) − 2 √ν tr (a x₈)` for `a = s / ν`, `s` the mirrored
    lower triangle of `zc · cc`. -/
def covTerm (zc cc : Mat) : ℝ :=
  traceTerm zc cc (scaled (sym (zc * cc)) * xAt (scaled (sym (zc * cc))) 8) (Real.sqrt (norm (sym (zc * cc))))

/-- The array holds the real matrix. -/
def IsR (V : (⟨2, ![256, 256]⟩ : Shape).Idx → EReal) (M : Mat) : Prop :=
  ∀ a b : Fin 256, V (ValueIdx.ix2 a b) = ((M a b : ℝ) : EReal)

/-- A product of two such arrays, entry by entry. -/
theorem sum_mul_coe (a b : Mat) (i j : Fin 256) :
    ∑ k : Fin 256, ((a i k : ℝ) : EReal) * ((b k j : ℝ) : EReal) = (((a * b) i j : ℝ) : EReal) := by
  rw [Matrix.mul_apply, ← sum_coe]
  exact Finset.sum_congr rfl fun k _ => (EReal.coe_mul _ _).symm

/-! ## The constants -/

theorem ofBits_half : Ideal.ofBits .f32 0x3F000000#32 = (((1 / 2 : ℝ)) : EReal) := by
  simp [Ideal.ofBits, Ideal.ieee]; rw [← EReal.coe_mul]; norm_num
theorem ofBits_three_halves : Ideal.ofBits .f32 0x3FC00000#32 = (((3 / 2 : ℝ)) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_three : Ideal.ofBits .f32 0x40400000#32 = ((3 : ℝ) : EReal) := by
  simp [Ideal.ofBits, Ideal.ieee]; rw [← EReal.coe_mul]; norm_num
theorem ofBits_rows : Ideal.ofBits .f32 0x47800000#32 = ((65536 : ℝ) : EReal) := by
  simp [Ideal.ofBits, Ideal.ieee]; rw [← EReal.coe_mul]; norm_num
theorem ofBits_codes : Ideal.ofBits .f32 0x46000000#32 = ((8192 : ℝ) : EReal) := by
  simp [Ideal.ofBits, Ideal.ieee]; rw [← EReal.coe_mul]; norm_num
theorem ofBits_bot : Ideal.ofBits .f32 0xFF800000#32 = ⊥ := by
  simp [Ideal.ofBits, Ideal.ieee]
/-- The small word added under the root is a real number. -/
theorem ofBits_eps : IsReal (Ideal.ofBits .f32 0x2EDBE6FF#32) := by
  refine ⟨(1 : ℝ) * ((2 ^ 23 + 6022911 : ℕ) : ℝ) * (2 : ℝ) ^ (93 - 127 - 23 : ℤ), ?_⟩
  simp [Ideal.ofBits, Ideal.ieee]

end Cert.ExtReal

end
-- ==== Proof.Words.lean ====
/-
  Masks by row and column number: a select on a comparison of two small numbers is the `if` on the numbers.
-/
module

public import Idealize.ShloMosaic.Lib.ValueIdx
public import Idealize.ShloMosaic.Lib.WordCmp

@[expose] public section

noncomputable section

namespace Cert.Words

open Idealize.ShloMosaic Idealize.ShloMosaic.WordCmp

/-- A select on a decided proposition. -/
theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- Below 256, numbers are equal when their words are. -/
theorem eq_word (a b : Fin 256) : IntOp.cmpi .eq (BitVec.ofNat 32 a.val) (BitVec.ofNat 32 b.val) = BitVec.ofBool (decide (a = b)) := by
  rw [cmpi_eq_ofNat (by have := a.isLt; omega) (by have := b.isLt; omega)]
  simp only [Fin.ext_iff]

/-- Below 256, numbers are in order when their words are, read signed. -/
theorem le_word (a b : Fin 256) : IntOp.cmpi .sle (BitVec.ofNat 32 a.val) (BitVec.ofNat 32 b.val) = BitVec.ofBool (decide (a ≤ b)) := by
  rw [cmpi_sle_ofNat (by have := a.isLt; omega) (by have := b.isLt; omega)]
  simp only [Fin.le_def]

/-- The same comparison written the other way. -/
theorem ge_word (a b : Fin 256) : IntOp.cmpi .sge (BitVec.ofNat 32 a.val) (BitVec.ofNat 32 b.val) = BitVec.ofBool (decide (b ≤ a)) := by
  rw [cmpi_sge_ofNat (by have := a.isLt; omega) (by have := b.isLt; omega)]
  simp only [Fin.le_def, ge_iff_le]

/-- The word of `a - 1`, read signed, is at least `b` exactly when `b` is below `a`. -/
theorem gt_word (a b : Fin 256) :
    IntOp.cmpi .sge (BitVec.ofNat 32 a.val + 4294967295#32) (BitVec.ofNat 32 b.val) = BitVec.ofBool (decide (b < a)) := by
  have ha := a.isLt
  have hb := b.isLt
  rw [cmpi_sge_eq]
  have e : (BitVec.ofNat 32 a.val + 4294967295#32).toInt = (a.val : Int) - 1 := by
    rw [BitVec.toInt_add, BitVec.toInt_eq_toNat_of_lt (by simp; omega)]
    rw [show (4294967295#32 : BitVec 32).toInt = -1 from by decide, BitVec.toNat_ofNat, Nat.mod_eq_of_lt (by omega)]
    rw [Int.bmod_def]
    split <;> omega
  have e' : (BitVec.ofNat 32 b.val).toInt = (b.val : Int) := by
    rw [BitVec.toInt_eq_toNat_of_lt (by simp; omega), BitVec.toNat_ofNat, Nat.mod_eq_of_lt (by omega)]
  rw [e, e']
  exact congrArg BitVec.ofBool (decide_eq_decide.2 (by rw [Fin.lt_def]; omega))

end Cert.Words

end
-- ==== Proof.KernelSquare.lean ====
/-
  The kernel's last point over the real numbers: on arrays that hold real matrices, the product in split precision is
  the exact product, the eight steps are the coupled iteration, and the term of the two covariances is `covTerm`.
-/
module

public import proofs.«01_k».proof.Proof.KernelShape
public import proofs.«01_k».proof.Proof.ExtReal
public import proofs.«01_k».proof.Proof.Words
public import Idealize.ShloMosaic.PureOps.Ideal.Laws
public import Idealize.ShloMosaic.Lib.Pipeline.Value

@[expose] public section

noncomputable section

open Idealize.ShloMosaic Idealize.ShloMosaic.ValueIdx Cert.RealMath Cert.ExtReal Cert.Words

namespace Cert.KernelIdeal.Square

open Cert.KernelIdeal Cert.KernelIdeal.Gen Cert.KernelIdeal.Shape

theorem lhs_row (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (by decide), dif_pos (by decide)]
  rfl

theorem rhs_col (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (by decide), dif_pos (by decide)]
  rfl

/-- One product at an index: the row by the column. -/
theorem mat_apply (A B : FVec Ideal S256x256 .bf16) (a b : Fin 256) :
    mat A B (ix2 a b) = ∑ k : Fin 256, A (ix2 a k) * B (ix2 k b) := by
  unfold mat
  simp only [matmul]
  rw [Ideal.matmul_constant_zero_apply,
    ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 a b)
      ((contrEquiv1 dot_S256x256_S256x256_S256x256_1_0_0_1_n_n 256 rfl rfl).symm k) = ix2 a k :=
    Shape.idx_ext₂ (lhs_row _ _) ((DotDims.lhsIdx_val_of_single _ rfl _ _).trans hk)
  have er : dot_S256x256_S256x256_S256x256_1_0_0_1_n_n.rhsIdx (ix2 a b)
      ((contrEquiv1 dot_S256x256_S256x256_S256x256_1_0_0_1_n_n 256 rfl rfl).symm k) = ix2 k b :=
    Shape.idx_ext₂ ((DotDims.rhsIdx_val_of_single _ rfl _ _).trans hk) (rhs_col _ _)
  rw [el, er]

/-- Nothing of a real is left after rounding, where rounding is exact. -/
theorem lo_zero {A : Sq Ideal} {x : Mat} (h : IsR A x) (a b : Fin 256) : lo A (ix2 a b) = 0 := by
  show A (ix2 a b) - A (ix2 a b) = 0
  rw [h a b, ← EReal.coe_sub, sub_self, EReal.coe_zero]

/-- The product in split precision is the product. -/
theorem mm_isR {A B : Sq Ideal} {x y : Mat} (hA : IsR A x) (hB : IsR B y) : IsR (mm A B) (x * y) := by
  intro a b
  show mat (hi A) (hi B) (ix2 a b) + mat (hi A) (lo B) (ix2 a b) + mat (lo A) (hi B) (ix2 a b) = _
  rw [mat_apply, mat_apply, mat_apply]
  simp only [lo_zero hA, lo_zero hB, mul_zero, zero_mul, Finset.sum_const_zero, add_zero]
  rw [← sum_mul_coe]
  refine Finset.sum_congr rfl fun k _ => ?_
  show A (ix2 a k) * B (ix2 k b) = _
  rw [hA, hB]

theorem rowNo_apply (a b : Fin 256) : rowNo (ix2 a b) = BitVec.ofNat 32 a.val := iota_single_apply _ _ _ _ _ _
theorem colNo_apply (a b : Fin 256) : colNo (ix2 a b) = BitVec.ofNat 32 b.val := iota_single_apply _ _ _ _ _ _

/-- A select on the diagonal's mask. -/
theorem diag_apply (A B : Sq Ideal) (a b : Fin 256) :
    select (cmpi .eq rowNo colNo) A B (ix2 a b) = if a = b then A (ix2 a b) else B (ix2 a b) := by
  rw [select_apply]
  show Scalar.select (IntOp.cmpi .eq (rowNo (ix2 a b)) (colNo (ix2 a b))) _ _ = _
  rw [rowNo_apply, colNo_apply, eq_word, select_decide]

/-- The identity matrix. -/
theorem eye_isR : IsR (eye (F := Ideal)) 1 := by
  intro a b
  unfold eye
  rw [diag_apply, broadcast_apply, broadcast_apply, Matrix.one_apply]
  show (if a = b then Ideal.ofBits .f32 0x3F800000#32 else Ideal.ofBits .f32 0x00000000#32) = _
  rw [Ideal.ofBits_one_f32, Ideal.ofBits_zero_f32]
  by_cases h : a = b
  · rw [if_pos h, if_pos h, EReal.coe_one]
  · rw [if_neg h, if_neg h, EReal.coe_zero]

/-- `1.5 I − 0.5 Z Y`. -/
theorem nsT_isR {Y Z : Sq Ideal} {y z : Mat} (hY : IsR Y y) (hZ : IsR Z z) :
    IsR (nsT Y Z) ((3 / 2 : ℝ) • (1 : Mat) - (1 / 2 : ℝ) • (z * y)) := by
  intro a b
  show Ideal.ofBits .f32 0x3FC00000#32 * eye (ix2 a b) - Ideal.ofBits .f32 0x3F000000#32 * mm Z Y (ix2 a b) = _
  rw [ofBits_three_halves, ofBits_half, eye_isR, mm_isR hZ hY, ← EReal.coe_mul, ← EReal.coe_mul, ← EReal.coe_sub]
  rfl

/-- The state after `n` steps is the coupled iteration's. -/
theorem nsAt_isR {A : Sq Ideal} {x : Mat} (hA : IsR A x) (n : ℕ) :
    IsR (nsAt A n).1 (pairAt x n).1 ∧ IsR (nsAt A n).2 (pairAt x n).2 := by
  induction n with
  | zero => exact ⟨hA, eye_isR⟩
  | succ n ih => exact ⟨mm_isR ih.1 (nsT_isR ih.1 ih.2), mm_isR (nsT_isR ih.1 ih.2) ih.2⟩

/-- The lower triangle, mirrored. -/
theorem symm_isR {P : Sq Ideal} {p : Mat} (hP : IsR P p) : IsR (symm P) (sym p) := by
  intro a b
  have ht : transpose S256x256 [1, 0] P transposes_S256x256_p1_0_S256x256 (ix2 a b) = P (ix2 b a) :=
    transpose_apply [1, 0] P _ _ (ix2 b a) fun d => by match d with | ⟨0, _⟩ => rfl | ⟨1, _⟩ => rfl
  unfold Cert.KernelIdeal.Shape.symm
  rw [select_apply, ht, hP, hP]
  show Scalar.select (IntOp.cmpi .sle (colNo (ix2 a b)) (rowNo (ix2 a b))) _ _ = _
  rw [rowNo_apply, colNo_apply, le_word, select_decide]
  show _ = (((if b ≤ a then p a b else p b a : ℝ)) : EReal)
  by_cases h : b ≤ a
  · rw [if_pos h, if_pos h]
  · rw [if_neg h, if_neg h]

/-- The one element of a vector of one element, read through its shape casts. -/
theorem extract3 (X : S1.Idx → EReal) (v : EReal) (h : ∀ j, X j = v) :
    extractAt ![0, 0, 0] (shapeCast S1x1x1 X shapeCasts_S1_S1x1x1) inpos_S1x1x1_p0_0_0 = v := h _

theorem extract2 (X : S1.Idx → EReal) (v : EReal) (h : ∀ j, X j = v) :
    extractAt ![0, 0] (shapeCast S1x1 X shapeCasts_S1_S1x1) inpos_S1x1_p0_0 = v := h _

/-- The trace is the sum down the diagonal. -/
theorem tr_eq (A : Sq Ideal) : tr A = ∑ a : Fin 256, A (ix2 a a) := by
  refine extract3 _ _ fun j => ?_
  refine (Ideal.multiReduction_add_total _ _ _ (by decide) _ _ _).trans ?_
  refine (Equiv.sum_comp (Shape.reshapeEquiv shapeCasts_S256x256_S1x256x256) _).trans ?_
  rw [sum_idx2]
  refine Finset.sum_congr rfl fun a _ => ?_
  rw [Finset.sum_eq_single a]
  · exact (diag_apply _ _ _ _).trans (if_pos rfl)
  · intro b _ hb
    refine (diag_apply _ _ _ _).trans ((if_neg fun e => hb e.symm).trans ?_)
    exact Ideal.ofBits_zero_f32
  · exact fun h => absurd (Finset.mem_univ a) h

theorem tr_isR {A : Sq Ideal} {x : Mat} (hA : IsR A x) : tr A = ((∑ i, x i i : ℝ) : EReal) := by
  rw [tr_eq, ← sum_coe]
  exact Finset.sum_congr rfl fun i _ => hA _ _

/-- A row's absolute sum. -/
theorem absRow_isR {S : Sq Ideal} {s : Mat} (hS : IsR S s) (a : Fin 256) :
    multiReduction .add [1] S256 (absf S) 0x00000000#32 reduces_S256x256_S256 (.inl rfl) rfl (ix1 a)
      = ((∑ j, |s a j| : ℝ) : EReal) := by
  refine (Ideal.multiReduction_add_single _ _ _ _ _ _).trans ?_
  rw [← sum_coe]
  refine Finset.sum_congr rfl fun (k : Fin 256) _ => ?_
  have e : reduces_S256x256_S256.lift (ix1 a) k = ix2 a k := funext fun d => Fin.ext (by match d with | ⟨0, _⟩ => rfl | ⟨1, _⟩ => rfl)
  rw [e]
  show max (S (ix2 a k)) (-(S (ix2 a k))) = _
  rw [hS]
  exact abs_coe _

/-- The largest absolute row sum. -/
theorem rowNorm_isR {S : Sq Ideal} {s : Mat} (hS : IsR S s) : rowNorm S = ((norm s : ℝ) : EReal) := by
  rw [← normE_eq]
  refine extract2 _ _ fun j => ?_
  refine (Ideal.multiReduction_maximumf_single _ _ _ _ _ _).trans ?_
  show (Finset.univ : Finset (Fin 256)).fold max (Ideal.ofBits .f32 0xFF800000#32) _ = _
  rw [ofBits_bot]
  unfold normE
  refine Finset.fold_congr fun i _ => ?_
  refine (shapeCast_addUnit_apply ![256] _ _ _).trans ?_
  refine Eq.trans (congrArg _ ?_) (absRow_isR hS i)
  exact funext fun d => Fin.ext (by match d with | ⟨0, _⟩ => rfl)

/-- The quotient by the norm, where that is not zero. -/
theorem scaled_isR {S : Sq Ideal} {s : Mat} (hS : IsR S s) (h0 : norm s ≠ 0) :
    IsR (divf S (broadcast S256x256 (rowNorm S))) (scaled s) := by
  intro a b
  rw [divf_apply, broadcast_apply, rowNorm_isR hS, hS, div_coe _ _ h0]
  rfl

/-- The trace of the root, scaled. -/
theorem root_term {P : Sq Ideal} {p : Mat} (hP : IsR P p) :
    tr (root P) * Ideal.sqrt (rowNorm (symm P))
      = (((∑ i, (scaled (sym p) * xAt (scaled (sym p)) 8) i i) * Real.sqrt (norm (sym p)) : ℝ) : EReal) := by
  have hs := symm_isR hP
  rw [rowNorm_isR hs, sqrt_coe _ (norm_nonneg _)]
  by_cases h0 : norm (sym p) = 0
  · rw [h0, Real.sqrt_zero, mul_zero, EReal.coe_zero, mul_zero]
  · have hr := (nsAt_isR (scaled_isR hs h0) 8).1
    rw [pairAt_eq] at hr
    unfold root
    rw [tr_isR hr, EReal.coe_mul]

/-- The last scalars, in the extended reals' own operations. -/
theorem scalars (pm t r n : Ideal .f32) :
    Scalar.sqrt (Scalar.addf (Scalar.addf pm (Scalar.maximumf (Scalar.subf t
      (Scalar.mulf (Scalar.ofBits .f32 0x40000000#32) (Scalar.mulf r (Scalar.sqrt n))))
      (Scalar.ofBits .f32 0x00000000#32))) (Scalar.ofBits .f32 0x2EDBE6FF#32))
      = Ideal.sqrt ((pm + max (t - Ideal.ofBits .f32 0x40000000#32 * (r * Ideal.sqrt n)) (Ideal.ofBits .f32 0x00000000#32))
        + Ideal.ofBits .f32 0x2EDBE6FF#32) := rfl

/-- The word of two real covariances: the means' part, the covariances' term cut at zero, the small constant, the root. -/
theorem wordOf_isR {Zc Cc : Sq Ideal} {zc cc : Mat} (hz : IsR Zc zc) (hc : IsR Cc cc) (pm : EReal) :
    wordOf (F := Ideal) Zc Cc pm = Ideal.sqrt ((pm + max ((covTerm zc cc : ℝ) : EReal) 0) + Ideal.ofBits .f32 0x2EDBE6FF#32) := by
  have ha : IsR (addf Zc Cc) (zc + cc) := fun a b => by
    rw [addf_apply, hz, hc, ← EReal.coe_add]; rfl
  unfold wordOf
  rw [scalars, root_term (mm_isR hz hc), tr_isR ha, ofBits_two, Ideal.ofBits_zero_f32, ← EReal.coe_mul, ← EReal.coe_sub]
  rfl

/-- Whatever the covariances are, an infinite means' part makes the word infinite. -/
theorem wordOf_top (Zc Cc : Sq Ideal) : wordOf (F := Ideal) Zc Cc (⊤ : EReal) = (⊤ : EReal) := by
  obtain ⟨e, he⟩ := ofBits_eps
  unfold wordOf
  rw [scalars, Ideal.ofBits_zero_f32, he, top_add_max]
  rfl

end Cert.KernelIdeal.Square

end
-- ==== Proof.KernelSums.lean ====
/-
  What the payloads compute at an index, over the extended reals: second moments and column sums of a block, the means,
  the covariances from raw moments, and the squared distance of the means.
-/
module

public import proofs.«01_k».proof.Proof.KernelSquare

@[expose] public section

noncomputable section

open Idealize.ShloMosaic Idealize.ShloMosaic.ValueIdx Cert.RealMath Cert.ExtReal

namespace Cert.KernelIdeal.Sums

open Cert.KernelIdeal Cert.KernelIdeal.Gen

/-! ## The two products that contract the rows -/

theorem rows_lhs (i : S256x256.Idx) (q : dot_S16384x256_S16384x256_S256x256_0_0_1_1_n_n.contr.Idx) :
    (dot_S16384x256_S16384x256_S256x256_0_0_1_1_n_n.lhsIdx i q 1).val = (i 0).val := by
  unfold DotDims.lhsIdx
  rw [dif_neg (by decide), dif_pos (by decide)]
  rfl

theorem rows_rhs (i : S256x256.Idx) (q : dot_S16384x256_S16384x256_S256x256_0_0_1_1_n_n.contr.Idx) :
    (dot_S16384x256_S16384x256_S256x256_0_0_1_1_n_n.rhsIdx i q 1).val = (i 1).val := by
  unfold DotDims.rhsIdx
  rw [dif_neg (by decide), dif_pos (by decide)]
  rfl

/-- `xᵀ y` over the 16384 rows of a block. -/
theorem rows_apply (x y : FVec Ideal S16384x256 .f32) (a b : Fin 256) :
    matmul dot_S16384x256_S16384x256_S256x256_0_0_1_1_n_n none x y (constant S256x256 .f32 0x00000000#32) (ix2 a b)
      = ∑ r : Fin 16384, x (ix2 r a) * y (ix2 r b) := by
  simp only [matmul]
  rw [Ideal.matmul_constant_zero_apply,
    ← Equiv.sum_comp (contrEquiv1 dot_S16384x256_S16384x256_S256x256_0_0_1_1_n_n 16384 rfl rfl).symm]
  refine Finset.sum_congr rfl fun k _ => ?_
  have hk := contrEquiv1_symm_val dot_S16384x256_S16384x256_S256x256_0_0_1_1_n_n 16384 rfl rfl k
  have el : dot_S16384x256_S16384x256_S256x256_0_0_1_1_n_n.lhsIdx (ix2 a b)
      ((contrEquiv1 dot_S16384x256_S16384x256_S256x256_0_0_1_1_n_n 16384 rfl rfl).symm k) = ix2 k a :=
    Shape.idx_ext₂ ((DotDims.lhsIdx_val_of_single _ rfl _ _).trans hk) (rows_lhs _ _)
  have er : dot_S16384x256_S16384x256_S256x256_0_0_1_1_n_n.rhsIdx (ix2 a b)
      ((contrEquiv1 dot_S16384x256_S16384x256_S256x256_0_0_1_1_n_n 16384 rfl rfl).symm k) = ix2 k b :=
    Shape.idx_ext₂ ((DotDims.rhsIdx_val_of_single _ rfl _ _).trans hk) (rows_rhs _ _)
  rw [el, er]

theorem codes_lhs (i : S256x256.Idx) (q : dot_S8192x256_S8192x256_S256x256_0_0_1_1_n_n.contr.Idx) :
    (dot_S8192x256_S8192x256_S256x256_0_0_1_1_n_n.lhsIdx i q 1).val = (i 0).val := by
  unfold DotDims.lhsIdx
  rw [dif_neg (by decide), dif_pos (by decide)]
  rfl

theorem codes_rhs (i : S256x256.Idx) (q : dot_S8192x256_S8192x256_S256x256_0_0_1_1_n_n.contr.Idx) :
    (dot_S8192x256_S8192x256_S256x256_0_0_1_1_n_n.rhsIdx i q 1).val = (i 1).val := by
  unfold DotDims.rhsIdx
  rw [dif_neg (by decide), dif_pos (by decide)]
  rfl

/-- `xᵀ y` over the 8192 rows of the codebook. -/
theorem codes_apply (x y : FVec Ideal S8192x256 .bf16) (a b : Fin 256) :
    matmul dot_S8192x256_S8192x256_S256x256_0_0_1_1_n_n none x y (constant S256x256 .f32 0x00000000#32) (ix2 a b)
      = ∑ r : Fin 8192, x (ix2 r a) * y (ix2 r b) := by
  simp only [matmul]
  rw [Ideal.matmul_constant_zero_apply,
    ← Equiv.sum_comp (contrEquiv1 dot_S8192x256_S8192x256_S256x256_0_0_1_1_n_n 8192 rfl rfl).symm]
  refine Finset.sum_congr rfl fun k _ => ?_
  have hk := contrEquiv1_symm_val dot_S8192x256_S8192x256_S256x256_0_0_1_1_n_n 8192 rfl rfl k
  have el : dot_S8192x256_S8192x256_S256x256_0_0_1_1_n_n.lhsIdx (ix2 a b)
      ((contrEquiv1 dot_S8192x256_S8192x256_S256x256_0_0_1_1_n_n 8192 rfl rfl).symm k) = ix2 k a :=
    Shape.idx_ext₂ ((DotDims.lhsIdx_val_of_single _ rfl _ _).trans hk) (codes_lhs _ _)
  have er : dot_S8192x256_S8192x256_S256x256_0_0_1_1_n_n.rhsIdx (ix2 a b)
      ((contrEquiv1 dot_S8192x256_S8192x256_S256x256_0_0_1_1_n_n 8192 rfl rfl).symm k) = ix2 k b :=
    Shape.idx_ext₂ ((DotDims.rhsIdx_val_of_single _ rfl _ _).trans hk) (codes_rhs _ _)
  rw [el, er]

/-! ## The accumulators -/

/-- The second moments start at zero. -/
theorem pay3_apply (i : S256x256.Idx) : k0_pay3 (F := Ideal) i = 0 := by
  unfold k0_pay3
  rw [shapeCast_self]
  exact Ideal.ofBits_zero_f32

/-- The column sums start at zero. -/
theorem pay4_apply (i : S1x256.Idx) : k0_pay4 (F := Ideal) i = 0 := by
  unfold k0_pay4
  rw [shapeCast_self]
  exact Ideal.ofBits_zero_f32

/-- A block adds its second moments. -/
theorem pay5_apply (x : FVec Ideal S16384x256 .f32) (acc : FVec Ideal S256x256 .f32) (a b : Fin 256) :
    k0_pay5 x acc (ix2 a b) = acc (ix2 a b) + ∑ r : Fin 16384, x (ix2 r a) * x (ix2 r b) := by
  unfold k0_pay5
  rw [shapeCast_self, addf_apply, rows_apply]

/-- A block adds its column sums. -/
theorem pay6_apply (x : FVec Ideal S16384x256 .f32) (acc : FVec Ideal S1x256 .f32) (b : Fin 256) :
    k0_pay6 x acc (ix2 (0 : Fin 1) b) = acc (ix2 (0 : Fin 1) b) + ∑ r : Fin 16384, x (ix2 r b) := by
  unfold k0_pay6
  rw [shapeCast_self, addf_apply]
  refine congrArg (acc (ix2 (0 : Fin 1) b) + ·) ?_
  refine (shapeCast_addUnit_apply ![256] _ _ _).trans ?_
  refine (Ideal.multiReduction_add_single _ _ _ _ _ _).trans ?_
  refine Finset.sum_congr rfl fun (k : Fin 16384) _ => congrArg x ?_
  exact funext fun d => Fin.ext (by match d with | ⟨0, _⟩ => rfl | ⟨1, _⟩ => rfl)

/-- The codebook's column sums. -/
theorem pay2_apply (x : FVec Ideal S8192x256 .f32) (b : Fin 256) :
    k0_pay2 x (ix2 (0 : Fin 1) b) = ∑ r : Fin 8192, x (ix2 r b) := by
  unfold k0_pay2
  rw [shapeCast_self]
  refine (shapeCast_addUnit_apply ![256] _ _ _).trans ?_
  refine (Ideal.multiReduction_add_single _ _ _ _ _ _).trans ?_
  refine Finset.sum_congr rfl fun (k : Fin 8192) _ => congrArg x ?_
  exact funext fun d => Fin.ext (by match d with | ⟨0, _⟩ => rfl | ⟨1, _⟩ => rfl)

/-- A real codebook's second moments, in split precision. -/
theorem pay1_apply (x : FVec Ideal S8192x256 .f32) (v : Fin 8192 → Fin 256 → ℝ)
    (hx : ∀ r j, x (ix2 r j) = ((v r j : ℝ) : EReal)) (a b : Fin 256) :
    k0_pay1 (F := Ideal) x (ix2 a b) = ((∑ r, v r a * v r b : ℝ) : EReal) := by
  have hlo : ∀ r j, (truncf .bf16 (subf x (extf .f32 (truncf .bf16 x bitsLt_bf16_f32) bitsLt_bf16_f32)) bitsLt_bf16_f32
      : FVec Ideal S8192x256 .bf16) (ix2 r j) = 0 := fun r j => by
    show x (ix2 r j) - x (ix2 r j) = 0
    rw [hx, ← EReal.coe_sub, sub_self, EReal.coe_zero]
  have ht : ∀ X : FVec Ideal S256x256 .f32, transpose S256x256 [1, 0] X transposes_S256x256_p1_0_S256x256 (ix2 a b) = X (ix2 b a) := fun X =>
    transpose_apply [1, 0] X _ _ (ix2 b a) fun d => by match d with | ⟨0, _⟩ => rfl | ⟨1, _⟩ => rfl
  unfold k0_pay1
  rw [shapeCast_self, addf_apply, addf_apply, ht, codes_apply, codes_apply, codes_apply]
  simp only [hlo, mul_zero, Finset.sum_const_zero, add_zero]
  rw [← sum_coe]
  refine Finset.sum_congr rfl fun r _ => ?_
  rw [truncf_apply, truncf_apply, hx, hx, EReal.coe_mul]

/-! ## Means and covariances -/

theorem pay8_apply (zs : FVec Ideal S1x256 .f32) (i : S1x256.Idx) : k0_pay8 (F := Ideal) zs i = Ideal.div (zs i) ((65536 : ℝ) : EReal) := by
  rw [← ofBits_rows]; rfl

theorem pay9_apply (cs : FVec Ideal S1x256 .f32) (i : S1x256.Idx) : k0_pay9 (F := Ideal) cs i = Ideal.div (cs i) ((8192 : ℝ) : EReal) := by
  rw [← ofBits_codes]; rfl

/-- A row vector spread down the rows. -/
theorem spread_row (x : FVec Ideal S1x256 .f32) (a b : Fin 256) :
    broadcastTo S256x256 x broadcasts_S1x256_S256x256 (ix2 a b) = x (ix2 (0 : Fin 1) b) :=
  broadcastTo_apply x _ _ (ix2 (0 : Fin 1) b) fun d => by match d with | ⟨0, _⟩ => rfl | ⟨1, _⟩ => rfl

/-- A row vector stood up as a column and spread along the columns. -/
theorem spread_col (x : FVec Ideal S1x256 .f32) (a b : Fin 256) :
    broadcastTo S256x256 (shapeCast S256x1 x shapeCasts_S1x256_S256x1) broadcasts_S256x1_S256x256 (ix2 a b) = x (ix2 (0 : Fin 1) a) := by
  refine (broadcastTo_apply _ _ _ (ix2 a (0 : Fin 1)) fun d => by match d with | ⟨0, _⟩ => rfl | ⟨1, _⟩ => rfl).trans ?_
  refine shapeCast_apply x _ _ (ix2 (0 : Fin 1) a) ?_
  rw [Shape.rowMajor_val_two, Shape.rowMajor_val_two]
  show 0 * 256 + a.val = a.val * 1 + 0
  omega

/-- The covariance of `z` from its raw moments. -/
theorem pay10_apply (zs : FVec Ideal S1x256 .f32) (zt : FVec Ideal S256x256 .f32) (a b : Fin 256) :
    k0_pay10 (F := Ideal) zs zt (ix2 a b) = Ideal.div (zt (ix2 a b)) ((65536 : ℝ) : EReal)
      - Ideal.div (zs (ix2 (0 : Fin 1) a)) ((65536 : ℝ) : EReal) * Ideal.div (zs (ix2 (0 : Fin 1) b)) ((65536 : ℝ) : EReal) := by
  unfold k0_pay10
  rw [subf_apply, mulf_apply, spread_row, spread_col, pay8_apply, pay8_apply, divf_apply, ← ofBits_rows]
  rfl

/-- The covariance of the codebook from its raw moments. -/
theorem pay11_apply (cs : FVec Ideal S1x256 .f32) (ct : FVec Ideal S256x256 .f32) (a b : Fin 256) :
    k0_pay11 (F := Ideal) cs ct (ix2 a b) = Ideal.div (ct (ix2 a b)) ((8192 : ℝ) : EReal)
      - Ideal.div (cs (ix2 (0 : Fin 1) a)) ((8192 : ℝ) : EReal) * Ideal.div (cs (ix2 (0 : Fin 1) b)) ((8192 : ℝ) : EReal) := by
  unfold k0_pay11
  rw [subf_apply, mulf_apply, spread_row, spread_col, pay9_apply, pay9_apply, divf_apply, ← ofBits_codes]
  rfl

/-- The squared distance of the means. -/
theorem pay12_apply (zs cs : FVec Ideal S1x256 .f32) :
    k0_pay12 (F := Ideal) zs cs = ∑ b : Fin 256,
      (Ideal.div (zs (ix2 (0 : Fin 1) b)) ((65536 : ℝ) : EReal) - Ideal.div (cs (ix2 (0 : Fin 1) b)) ((8192 : ℝ) : EReal))
      * (Ideal.div (zs (ix2 (0 : Fin 1) b)) ((65536 : ℝ) : EReal) - Ideal.div (cs (ix2 (0 : Fin 1) b)) ((8192 : ℝ) : EReal)) := by
  unfold k0_pay12
  refine Square.extract3 _ _ fun j => ?_
  refine (Ideal.multiReduction_add_total _ _ _ (by decide) _ _ _).trans ?_
  refine (Equiv.sum_comp (Shape.reshapeEquiv shapeCasts_S1x256_S1x1x256) _).trans ?_
  rw [sum_idx2, Fin.sum_univ_one]
  refine Finset.sum_congr rfl fun b _ => ?_
  rw [mulf_apply, subf_apply, pay8_apply, pay9_apply]

end Cert.KernelIdeal.Sums

end
-- ==== Proof.Distance.lean ====
/-
  The distance both programs compute, as one function of the two arrays over the extended reals: infinite where the means'
  part is infinite, else the root of the means' part and the covariances' term of the arrays, which are then real.
-/
module

public import proofs.«01_k».proof.Proof.ExtReal

@[expose] public section

noncomputable section

namespace Cert.Distance

open Idealize.ShloMosaic Idealize.ShloMosaic.ValueIdx Cert.RealMath Cert.ExtReal

/-- An array of `n` rows of 256 extended reals. -/
abbrev Rows (n : ℕ) := (⟨2, ![n, 256]⟩ : Shape).Idx → EReal

/-- The mean of a column. -/
def meanE {n : ℕ} (X : Rows n) (b : Fin 256) : EReal := Ideal.div (∑ r : Fin n, X (ix2 r b)) ((n : ℝ) : EReal)

/-- The squared distance of the two arrays' means. -/
def meanDist {n k : ℕ} (Z : Rows n) (C : Rows k) : EReal := ∑ b, (meanE Z b - meanE C b) * (meanE Z b - meanE C b)

/-- The real numbers of an array. -/
def reals {n : ℕ} (X : Rows n) (r : Fin n) (j : Fin 256) : ℝ := (X (ix2 r j)).toReal

open Classical in
/-- The distance. -/
def dist {n k : ℕ} (Z : Rows n) (C : Rows k) : EReal :=
  if meanDist Z C = ⊤ then ⊤ else
    Ideal.sqrt ((meanDist Z C + max ((covTerm (cov (n : ℝ) (reals Z)) (cov (k : ℝ) (reals C)) : ℝ) : EReal) 0)
      + Ideal.ofBits .f32 0x2EDBE6FF#32)

/-- An array whose column means are real is real. -/
theorem real_of_mean {n : ℕ} (hn : 0 < n) (X : Rows n) (h : ∀ b, IsReal (meanE X b)) (r : Fin n) (b : Fin 256) :
    X (ix2 r b) = ((reals X r b : ℝ) : EReal) := by
  obtain ⟨v, hv⟩ := real_of_sum _ _ (real_of_div (by exact_mod_cast hn) (h b)) r (Finset.mem_univ r)
  rw [reals, hv, EReal.toReal_coe]

/-- Where the means' part is not `⊤`, both arrays are real. -/
theorem real_of_meanDist {n k : ℕ} (hn : 0 < n) (hk : 0 < k) (Z : Rows n) (C : Rows k) (h : meanDist Z C ≠ ⊤) :
    (∀ r b, Z (ix2 r b) = ((reals Z r b : ℝ) : EReal)) ∧ (∀ r b, C (ix2 r b) = ((reals C r b : ℝ) : EReal)) := by
  have hd : ∀ b, IsReal (meanE Z b) ∧ IsReal (meanE C b) := fun b => real_of_sub (real_of_sum_sq _ h b)
  exact ⟨real_of_mean hn Z fun b => (hd b).1, real_of_mean hk C fun b => (hd b).2⟩

/-- A real array's column mean. -/
theorem meanE_real {n : ℕ} (hn : 0 < n) (X : Rows n) (hX : ∀ r b, X (ix2 r b) = ((reals X r b : ℝ) : EReal)) (b : Fin 256) :
    meanE X b = ((mean (n : ℝ) (reals X) b : ℝ) : EReal) := by
  unfold meanE
  rw [Finset.sum_congr rfl fun r _ => hX r b, sum_coe, div_coe _ _ (by exact_mod_cast hn.ne')]
  rfl

/-- A value that is `⊤` where the means' part is, and else the root's, is the distance. -/
theorem eq_dist {n k : ℕ} (hn : 0 < n) (hk : 0 < k) (Z : Rows n) (C : Rows k) (w : EReal)
    (htop : meanDist Z C = ⊤ → w = ⊤)
    (hreal : (∀ r b, Z (ix2 r b) = ((reals Z r b : ℝ) : EReal)) → (∀ r b, C (ix2 r b) = ((reals C r b : ℝ) : EReal)) →
      w = Ideal.sqrt ((meanDist Z C + max ((covTerm (cov (n : ℝ) (reals Z)) (cov (k : ℝ) (reals C)) : ℝ) : EReal) 0)
        + Ideal.ofBits .f32 0x2EDBE6FF#32)) : w = dist Z C := by
  unfold dist
  by_cases h : meanDist Z C = ⊤
  · rw [if_pos h]; exact htop h
  · rw [if_neg h]
    obtain ⟨h1, h2⟩ := real_of_meanDist hn hk Z C h
    exact hreal h1 h2

end Cert.Distance

end
-- ==== Proof.KernelWord.lean ====
/-
  The kernel's result word over the extended reals is the distance of its two arguments: the four blocks' sums are the
  sums over all rows, raw moments give the covariances, and the last point's word is the distance.
-/
module

public import proofs.«01_k».proof.Proof.KernelValue
public import proofs.«01_k».proof.Proof.KernelSums
public import proofs.«01_k».proof.Proof.Distance

@[expose] public section

noncomputable section

open Idealize.ShloMosaic Idealize.ShloMosaic.ValueIdx Idealize.ShloMosaic.TcCoe Idealize.SL.Sem
open Cert.RealMath Cert.ExtReal Cert.Distance

namespace Cert.KernelIdeal.Word

open Cert.KernelIdeal Cert.KernelIdeal.Gen Cert.KernelIdeal.Value Cert.KernelIdeal.Shape Cert.KernelIdeal.Square Cert.KernelIdeal.Sums

variable (m : (ℓ : Loc nD τ sig) → Buf (Elt Ideal) ℓ)

/-- The argument `z` of device `c`. -/
abbrev zArr (c : Dev nD) : Rows 65536 := m ((c : Thread nD τ).loc main_arg0)

/-- The argument `codebook` of device `c`. -/
abbrev cArr (c : Dev nD) : Rows 8192 := m ((c : Thread nD τ).loc main_arg1)

/-! ## The blocks -/

theorem index_z : ∀ t : Fin cfg0.N, win0_0.index t (0 : Fin 2) = t.val ∧ win0_0.index t (1 : Fin 2) = 0 :=
  (by decide +kernel : ∀ t : Fin grid0.N, _)

theorem index_c : ∀ t : Fin cfg0.N, win0_1.index t (0 : Fin 2) = 0 ∧ win0_1.index t (1 : Fin 2) = 0 :=
  (by decide +kernel : ∀ t : Fin grid0.N, _)

/-- Row `r` of block `n` is row `16384 n + r` of `z`. -/
theorem zBlock_apply (c : Dev nD) (n : ℕ) (h : n < cfg0.N) (r : Fin 16384) (j : Fin 256) (R : Fin 65536)
    (hR : R.val = n * 16384 + r.val) : zBlock m c n h (ix2 r j) = zArr m c (ix2 R j) := by
  obtain ⟨e0, e1⟩ := index_z ⟨n, h⟩
  show zArr m c (((cfg0.win 0).blk ⟨n, h⟩).view.emb (ix2 r j)) = _
  refine congrArg (zArr m c) (funext fun a => Fin.ext ?_)
  match a with
  | ⟨0, _⟩ =>
    show win0_0.index ⟨n, h⟩ (0 : Fin 2) * 16384 + 1 * r.val = R.val
    rw [e0, hR]; show n * 16384 + 1 * r.val = _; omega
  | ⟨1, _⟩ =>
    show win0_0.index ⟨n, h⟩ (1 : Fin 2) * 256 + 1 * j.val = j.val
    rw [e1]; omega

/-- The codebook's block is the codebook. -/
theorem cBlock_apply (c : Dev nD) (r : Fin 8192) (j : Fin 256) : cBlock m c (ix2 r j) = cArr m c (ix2 r j) := by
  obtain ⟨e0, e1⟩ := index_c ⟨0, pos_N⟩
  show cArr m c (((cfg0.win 1).blk ⟨0, pos_N⟩).view.emb (ix2 r j)) = _
  refine congrArg (cArr m c) (funext fun a => Fin.ext ?_)
  match a with
  | ⟨0, _⟩ =>
    show win0_1.index ⟨0, pos_N⟩ (0 : Fin 2) * 8192 + 1 * r.val = r.val
    rw [e0]; omega
  | ⟨1, _⟩ =>
    show win0_1.index ⟨0, pos_N⟩ (1 : Fin 2) * 256 + 1 * j.val = j.val
    rw [e1]; omega

/-- Row `r` of block `n`, as a row of the whole. -/
def row (n : Fin 4) (r : Fin 16384) : Fin 65536 := ⟨n.val * 16384 + r.val, by have := n.isLt; have := r.isLt; omega⟩

/-- Four blocks' sums in order are the sum over all rows. -/
theorem sum_rows (f : Fin 65536 → EReal) :
    (((0 + ∑ r, f (row 0 r)) + ∑ r, f (row 1 r)) + ∑ r, f (row 2 r)) + ∑ r, f (row 3 r) = ∑ R, f R := by
  have e : ∑ R, f R = ∑ p : Fin 4 × Fin 16384, f (row p.1 p.2) := by
    rw [← Equiv.sum_comp (finProdFinEquiv (m := 4) (n := 16384)) (fun R : Fin 65536 => f R)]
    refine Finset.sum_congr rfl fun p _ => congrArg f (Fin.ext ?_)
    show p.2.val + 16384 * p.1.val = p.1.val * 16384 + p.2.val
    omega
  rw [e, Fintype.sum_prod_type, Fin.sum_univ_four, zero_add]

/-- The second moments over all rows. -/
theorem ztAt_apply (c : Dev nD) (a b : Fin 256) :
    ztAt m c 3 three_lt (ix2 a b) = ∑ R : Fin 65536, zArr m c (ix2 R a) * zArr m c (ix2 R b) := by
  rw [← sum_rows]
  simp only [ztAt]
  rw [pay5_apply, pay5_apply, pay5_apply, pay5_apply, pay3_apply]
  refine congrArg₂ (· + ·) (congrArg₂ (· + ·) (congrArg₂ (· + ·) (congrArg (0 + ·) ?_) ?_) ?_) ?_ <;>
    refine Finset.sum_congr rfl fun r _ => congrArg₂ (· * ·) ?_ ?_ <;> exact zBlock_apply m c _ _ r _ (row _ r) rfl

/-- The column sums over all rows. -/
theorem zsAt_apply (c : Dev nD) (b : Fin 256) :
    zsAt m c 3 three_lt (ix2 (0 : Fin 1) b) = ∑ R : Fin 65536, zArr m c (ix2 R b) := by
  rw [← sum_rows]
  simp only [zsAt]
  rw [pay6_apply, pay6_apply, pay6_apply, pay6_apply, pay4_apply]
  refine congrArg₂ (· + ·) (congrArg₂ (· + ·) (congrArg₂ (· + ·) (congrArg (0 + ·) ?_) ?_) ?_) ?_ <;>
    refine Finset.sum_congr rfl fun r _ => ?_ <;> exact zBlock_apply m c _ _ r _ (row _ r) rfl

/-- The codebook's column sums. -/
theorem cs_apply (c : Dev nD) (b : Fin 256) :
    k0_pay2 (cBlock m c) (ix2 (0 : Fin 1) b) = ∑ r : Fin 8192, cArr m c (ix2 r b) := by
  rw [pay2_apply]
  exact Finset.sum_congr rfl fun r _ => cBlock_apply m c r b

/-! ## The word -/

/-- The numbers of rows, as the divisors' real values. -/
theorem rows_cast : ((65536 : ℝ) : EReal) = (((65536 : ℕ) : ℝ) : EReal) := by norm_num
theorem codes_cast : ((8192 : ℝ) : EReal) = (((8192 : ℕ) : ℝ) : EReal) := by norm_num

theorem mean_z (c : Dev nD) (b : Fin 256) :
    Ideal.div (zsAt m c 3 three_lt (ix2 (0 : Fin 1) b)) ((65536 : ℝ) : EReal) = meanE (zArr m c) b := by
  rw [zsAt_apply, rows_cast]; rfl

theorem mean_c (c : Dev nD) (b : Fin 256) :
    Ideal.div (k0_pay2 (cBlock m c) (ix2 (0 : Fin 1) b)) ((8192 : ℝ) : EReal) = meanE (cArr m c) b := by
  rw [cs_apply, codes_cast]; rfl

/-- The means' part. -/
theorem part_mean (c : Dev nD) :
    k0_pay12 (zsAt m c 3 three_lt) (k0_pay2 (cBlock m c)) = meanDist (zArr m c) (cArr m c) := by
  rw [pay12_apply]
  simp only [mean_z, mean_c]
  rfl

/-- The covariance of a real `z`. -/
theorem cov_z (c : Dev nD) (hz : ∀ r b, zArr m c (ix2 r b) = ((reals (zArr m c) r b : ℝ) : EReal)) :
    IsR (k0_pay10 (zsAt m c 3 three_lt) (ztAt m c 3 three_lt)) (cov ((65536 : ℕ) : ℝ) (reals (zArr m c))) := by
  intro a b
  rw [pay10_apply, mean_z, mean_z, meanE_real (by decide) _ hz, meanE_real (by decide) _ hz, ztAt_apply, rows_cast,
    ← cov_eq (by decide)]
  simp only [hz]
  simp only [← EReal.coe_mul, sum_coe]
  rw [div_coe _ _ (by norm_num), ← EReal.coe_sub]

/-- The covariance of a real codebook. -/
theorem cov_c (c : Dev nD) (hc : ∀ r b, cArr m c (ix2 r b) = ((reals (cArr m c) r b : ℝ) : EReal)) :
    IsR (k0_pay11 (k0_pay2 (cBlock m c)) (k0_pay1 (cBlock m c))) (cov ((8192 : ℕ) : ℝ) (reals (cArr m c))) := by
  intro a b
  rw [pay11_apply, mean_c, mean_c, meanE_real (by decide) _ hc, meanE_real (by decide) _ hc,
    pay1_apply _ (reals (cArr m c)) (fun r j => (cBlock_apply m c r j).trans (hc r j)), codes_cast, ← cov_eq (by decide)]
  rw [div_coe _ _ (by norm_num), ← EReal.coe_mul, ← EReal.coe_sub]

/-- The kernel's word is the distance of its arguments. -/
theorem word_eq (c : Dev nD) : word m c = dist (zArr m c) (cArr m c) := by
  refine eq_dist (by decide) (by decide) _ _ _ (fun h => ?_) fun hz hc => ?_
  · unfold word
    rw [finish_eq, part_mean, h, wordOf_top]
  · unfold word
    rw [finish_eq, part_mean, wordOf_isR (cov_z m c hz) (cov_c m c hc)]

end Cert.KernelIdeal.Word

end
-- ==== Proof.ReferenceWord.lean ====
/-
  The reference's result over the extended reals is the distance of its two arguments: the means, the centred
  covariances, the mirrored product, its norm, Newton's eight steps, the trace, the root.
-/
module

public import proofs.«01_k».proof.Proof.Gen.ReferenceIdeal.Read
public import proofs.«01_k».proof.Proof.Distance
public import proofs.«01_k».proof.Proof.Words
public import Idealize.ShloMosaic.Lib.ValueIdxRank1
public import Idealize.ShloMosaic.Lib.KernelVsHost

@[expose] public section

noncomputable section

open Idealize.ShloMosaic Idealize.ShloMosaic.ValueIdx
open Cert.RealMath Cert.ExtReal Cert.Distance Cert.Words

namespace Cert.ReferenceIdeal.Word

open Cert.ReferenceIdeal Cert.ReferenceIdeal.Gen Cert.ReferenceIdeal.Read

variable (Z : Rows 65536) (C : Rows 8192)

/-- The numbers of rows, as the divisors' words. -/
theorem rows_word : Ideal.ofBits .f32 0x47800000#32 = (((65536 : ℕ) : ℝ) : EReal) := by rw [ofBits_rows]; norm_num
theorem codes_word : Ideal.ofBits .f32 0x46000000#32 = (((8192 : ℕ) : ℝ) : EReal) := by rw [ofBits_codes]; norm_num

/-- A column's sum over the number of rows is the column's mean. -/
theorem mean_of {n : ℕ} (X : Rows n) (b : Fin 256) (f : Fin n → EReal) (h : ∀ k, f k = X (ix2 k b)) {d : EReal}
    (hd : d = ((n : ℝ) : EReal)) : Ideal.div (∑ k, f k) d = meanE X b := by
  rw [hd, Finset.sum_congr rfl fun k _ => h k]
  rfl

/-- A sum of products of centred reals over the number of rows is the covariance's entry. -/
theorem cov_of {n : ℕ} (hn : (n : ℝ) ≠ 0) (x : Fin n → Fin 256 → ℝ) (a b : Fin 256) (f : Fin n → EReal)
    (h : ∀ r, f r = (((x r a - mean (n : ℝ) x a) * (x r b - mean (n : ℝ) x b) : ℝ) : EReal)) {d : EReal} (hd : d = ((n : ℝ) : EReal)) :
    Ideal.div (∑ r, f r) d = ((cov (n : ℝ) x a b : ℝ) : EReal) := by
  rw [hd, Finset.sum_congr rfl fun k _ => h k, sum_coe, div_coe _ _ hn]
  rfl

/-! ## Means -/

theorem mean_z (b : Fin 256) : val_main_v2 (F := Ideal) Z (ix1 b) = meanE Z b := by
  rw [val_main_v2_apply, val_main_v0_apply, val_main_v1_apply]
  show Ideal.div (Ideal.ofBits .f32 0x00000000#32 + ∑ k : Fin 65536, _) (Ideal.ofBits .f32 0x47800000#32) = _
  rw [Ideal.ofBits_zero_f32, zero_add]
  refine mean_of Z b _ (fun k => congrArg Z ?_) rows_word
  exact funext fun d => Fin.ext (by match d with | ⟨0, _⟩ => rfl | ⟨1, _⟩ => rfl)

theorem mean_c (b : Fin 256) : val_main_v15 (F := Ideal) C (ix1 b) = meanE C b := by
  rw [val_main_v15_apply, val_main_v13_apply, val_main_v14_apply]
  show Ideal.div (Ideal.ofBits .f32 0x00000000#32 + ∑ k : Fin 8192, _) (Ideal.ofBits .f32 0x46000000#32) = _
  rw [Ideal.ofBits_zero_f32, zero_add]
  refine mean_of C b _ (fun k => congrArg C ?_) codes_word
  exact funext fun d => Fin.ext (by match d with | ⟨0, _⟩ => rfl | ⟨1, _⟩ => rfl)

/-- The means' part. -/
theorem part_mean (i : S_.Idx) : val_main_v29 (F := Ideal) Z C i = meanDist Z C := by
  rw [val_main_v29_apply]
  show Ideal.ofBits .f32 0x00000000#32 + _ = _
  rw [Ideal.ofBits_zero_f32, zero_add, ← Equiv.sum_comp (idxEquiv1 (n := 256)).symm]
  refine Finset.sum_congr rfl fun b _ => ?_
  show (val_main_v2 (F := Ideal) Z (ix1 b) - val_main_v15 (F := Ideal) C (ix1 b)) * (val_main_v2 (F := Ideal) Z (ix1 b) - val_main_v15 (F := Ideal) C (ix1 b)) = _
  rw [mean_z, mean_c]

/-! ## Covariances -/

/-- A row of `z` less the mean. -/
theorem centred_z (r : Fin 65536) (b : Fin 256) : val_main_v8 (F := Ideal) Z (ix2 r b) = Z (ix2 r b) - meanE Z b := by
  rw [val_main_v8_apply, val_main_v7_apply, val_main_v6_apply, val_main_v4_apply, val_main_v3_apply, val_main_v5_apply]
  show Z (ix2 r b) - Ideal.div (Ideal.ofBits .f32 0x00000000#32 + ∑ k : Fin 65536, _) (Ideal.ofBits .f32 0x47800000#32) = _
  rw [Ideal.ofBits_zero_f32, zero_add]
  refine congrArg (Z (ix2 r b) - ·) (mean_of Z b _ (fun k => congrArg Z ?_) rows_word)
  exact funext fun d => Fin.ext (by match d with | ⟨0, _⟩ => rfl | ⟨1, _⟩ => rfl)

/-- A row of the codebook less the mean. -/
theorem centred_c (r : Fin 8192) (b : Fin 256) : val_main_v21 (F := Ideal) C (ix2 r b) = C (ix2 r b) - meanE C b := by
  rw [val_main_v21_apply, val_main_v20_apply, val_main_v19_apply, val_main_v17_apply, val_main_v16_apply, val_main_v18_apply]
  show C (ix2 r b) - Ideal.div (Ideal.ofBits .f32 0x00000000#32 + ∑ k : Fin 8192, _) (Ideal.ofBits .f32 0x46000000#32) = _
  rw [Ideal.ofBits_zero_f32, zero_add]
  refine congrArg (C (ix2 r b) - ·) (mean_of C b _ (fun k => congrArg C ?_) codes_word)
  exact funext fun d => Fin.ext (by match d with | ⟨0, _⟩ => rfl | ⟨1, _⟩ => rfl)

/-- The covariance of a real `z`. -/
theorem cov_z (hz : ∀ r b, Z (ix2 r b) = ((reals Z r b : ℝ) : EReal)) :
    IsR (val_main_v12 (F := Ideal) Z) (cov ((65536 : ℕ) : ℝ) (reals Z)) := by
  intro a b
  have hc : ∀ r j, val_main_v8 (F := Ideal) Z (ix2 r j) = ((reals Z r j - mean ((65536 : ℕ) : ℝ) (reals Z) j : ℝ) : EReal) := fun r j => by
    rw [centred_z, hz, meanE_real (by decide) Z hz, EReal.coe_sub]
  rw [val_main_v12_apply, val_main_v10_apply, val_main_v11_apply]
  show Ideal.div (∑ k : Fin 65536, _) (Ideal.ofBits .f32 0x47800000#32) = _
  refine cov_of (by norm_num) (reals Z) a b _ (fun r => ?_) rows_word
  rw [val_main_v9_apply, EReal.coe_mul, ← hc, ← hc]
  refine congrArg₂ (· * ·) (congrArg _ ?_) (congrArg _ ?_) <;>
    exact funext fun d => Fin.ext (by match d with | ⟨0, _⟩ => rfl | ⟨1, _⟩ => rfl)

/-- The covariance of a real codebook. -/
theorem cov_c (hC : ∀ r b, C (ix2 r b) = ((reals C r b : ℝ) : EReal)) :
    IsR (val_main_v25 (F := Ideal) C) (cov ((8192 : ℕ) : ℝ) (reals C)) := by
  intro a b
  have hc : ∀ r j, val_main_v21 (F := Ideal) C (ix2 r j) = ((reals C r j - mean ((8192 : ℕ) : ℝ) (reals C) j : ℝ) : EReal) := fun r j => by
    rw [centred_c, hC, meanE_real (by decide) C hC, EReal.coe_sub]
  rw [val_main_v25_apply, val_main_v23_apply, val_main_v24_apply]
  show Ideal.div (∑ k : Fin 8192, _) (Ideal.ofBits .f32 0x46000000#32) = _
  refine cov_of (by norm_num) (reals C) a b _ (fun r => ?_) codes_word
  rw [val_main_v22_apply, EReal.coe_mul, ← hc, ← hc]
  refine congrArg₂ (· * ·) (congrArg _ ?_) (congrArg _ ?_) <;>
    exact funext fun d => Fin.ext (by match d with | ⟨0, _⟩ => rfl | ⟨1, _⟩ => rfl)

/-! ## The mirrored product and its norm -/

/-- The 256 × 256 arrays. -/
abbrev Arr := FVec Ideal S256x256 .f32

/-- The host's product. -/
def dot (A B : Arr) : Arr := Host.dotGeneral dot_S256x256_S256x256_S256x256_1_0_0_1_n_n none A B

/-- The host's product at an index: the row by the column. -/
theorem dot_apply (A B : Arr) (a b : Fin 256) : dot A B (ix2 a b) = ∑ k : Fin 256, A (ix2 a k) * B (ix2 k b) := by
  unfold dot
  simp only [Host.dotGeneral]
  rw [Ideal.dotGeneral_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 a b)
      ((contrEquiv1 dot_S256x256_S256x256_S256x256_1_0_0_1_n_n 256 rfl rfl).symm k) = ix2 a k :=
    Shape.idx_ext₂ (lhs_main_v30_0 _ _) ((lhs_main_v30_1 _ _).trans hk)
  have er : dot_S256x256_S256x256_S256x256_1_0_0_1_n_n.rhsIdx (ix2 a b)
      ((contrEquiv1 dot_S256x256_S256x256_S256x256_1_0_0_1_n_n 256 rfl rfl).symm k) = ix2 k b :=
    Shape.idx_ext₂ ((rhs_main_v30_0 _ _).trans hk) (rhs_main_v30_1 _ _)
  rw [el, er]

/-- On arrays that hold real matrices it is the matrices' product. -/
theorem dot_isR {A B : Arr} {x y : Mat} (hA : IsR A x) (hB : IsR B y) : IsR (dot A B) (x * y) := by
  intro a b
  rw [dot_apply, ← sum_mul_coe]
  exact Finset.sum_congr rfl fun k _ => by rw [hA, hB]

/-- A lower triangle and the mirrored strict one make the mirrored lower triangle. -/
theorem sym_isR {p : Mat} (hP : IsR (val_main_v30 (F := Ideal) Z C) p) : IsR (val_main_v34 (F := Ideal) Z C) (sym p) := by
  intro a b
  have m1 : val_main_call0_v4 (F := Ideal) (ix2 a b) = BitVec.ofBool (decide (b ≤ a)) := by
    rw [val_main_call0_v4_apply, val_main_call0_v2_apply, val_main_call0_v0_apply, val_main_call0_v1_apply, val_main_call0_v3_apply]
    show IntOp.cmpi .sge (BitVec.ofNat 32 a.val + 0#32) (BitVec.ofNat 32 b.val) = _
    rw [BitVec.add_zero, ge_word]
  have m2 : val_main_call1_v4 (F := Ideal) (ix2 b a) = BitVec.ofBool (decide (a < b)) := by
    rw [val_main_call1_v4_apply, val_main_call1_v2_apply, val_main_call1_v0_apply, val_main_call1_v1_apply, val_main_call1_v3_apply]
    exact gt_word b a
  have z1 : val_main_call0_v5 (F := Ideal) (ix2 a b) = 0 := by rw [val_main_call0_v5_apply]; exact Ideal.ofBits_zero_f32
  have z2 : val_main_call1_v5 (F := Ideal) (ix2 b a) = 0 := by rw [val_main_call1_v5_apply]; exact Ideal.ofBits_zero_f32
  have e : idx_main_v33 (ix2 a b) = ix2 b a := funext fun d => Fin.ext (by match d with | ⟨0, _⟩ => rfl | ⟨1, _⟩ => rfl)
  rw [val_main_v34_apply, val_main_v31_apply, val_main_v33_apply, e, val_main_v32_apply, m1, m2, z1, z2, select_decide, select_decide,
    hP, hP]
  show (if b ≤ a then ((p a b : ℝ) : EReal) else 0) + (if a < b then ((p b a : ℝ) : EReal) else 0) = (((if b ≤ a then p a b else p b a : ℝ)) : EReal)
  by_cases h : b ≤ a
  · rw [if_pos h, if_pos h, if_neg (not_lt.2 h), add_zero]
  · rw [if_neg h, if_neg h, if_pos (not_le.1 h), zero_add]

/-- The norm. -/
theorem norm_isR {s : Mat} (hS : IsR (val_main_v34 (F := Ideal) Z C) s) (i : S_.Idx) :
    val_main_v37 (F := Ideal) Z C i = ((norm s : ℝ) : EReal) := by
  have hr : ∀ a : Fin 256, val_main_v36 (F := Ideal) Z C (ix1 a) = ((∑ j, |s a j| : ℝ) : EReal) := fun a => by
    rw [val_main_v36_apply]
    show Ideal.ofBits .f32 0x00000000#32 + _ = _
    rw [Ideal.ofBits_zero_f32, zero_add, ← sum_coe]
    refine Finset.sum_congr rfl fun k _ => ?_
    have e : idx_main_v36 (ix1 a) k = ix2 a k := funext fun d => Fin.ext (by match d with | ⟨0, _⟩ => rfl | ⟨1, _⟩ => rfl)
    rw [val_main_v35_apply, e]
    show max (val_main_v34 (F := Ideal) Z C (ix2 a k)) (-(val_main_v34 (F := Ideal) Z C (ix2 a k))) = _
    rw [hS]
    exact abs_coe _
  rw [← normE_eq]
  unfold val_main_v37 val_main_cst_11
  rw [Host.reduce_eq_fold, Finset.filter_true_of_mem fun _ _ => Subsingleton.elim _ _,
    ← Finset.univ_map_equiv_to_embedding (idxEquiv1 (n := 256)).symm, Finset.fold_map]
  show (Finset.univ : Finset (Fin 256)).fold max (Ideal.ofBits .f32 0xFF800000#32) _ = _
  rw [ofBits_bot]
  unfold normE
  exact Finset.fold_congr fun a _ => hr a

/-! ## Newton's steps -/

/-- The identity matrix. -/
theorem eye_isR : IsR (val_main_v43 (F := Ideal)) 1 := by
  intro a b
  have hm : val_main_v42 (F := Ideal) (ix2 a b) = BitVec.ofBool (decide (a = b)) := by
    rw [val_main_v42_apply, val_main_v41_apply, val_main_v38_apply, val_main_v40_apply, val_main_v39_apply]
    show IntOp.cmpi .eq (BitVec.ofNat 32 a.val + 0#32) (BitVec.ofNat 32 b.val) = _
    rw [BitVec.add_zero, eq_word]
  rw [val_main_v43_apply, hm, Matrix.one_apply]
  by_cases h : a = b
  · rw [decide_eq_true h, if_pos h]
    show (((1#1 : BitVec 1).toNat : ℝ) : EReal) = _
    norm_num
  · rw [decide_eq_false h, if_neg h]
    show (((0#1 : BitVec 1).toNat : ℝ) : EReal) = _
    norm_num

/-- One step as the program takes it: `0.5 · (X (3 I − A (X X)))`. -/
def step (A X : Arr) : Arr :=
  mulf (val_main_v52 (F := Ideal)) (dot X (subf (val_main_v47 (F := Ideal)) (dot A (dot X X))))

/-- One step of Newton's iteration. -/
theorem step_isR {A X : Arr} {a : Mat} {n : ℕ} (hA : IsR A a) (hX : IsR X (xAt a n)) : IsR (step A X) (xAt a (n + 1)) := by
  have h3 : IsR (subf (val_main_v47 (F := Ideal)) (dot A (dot X X))) ((3 : ℝ) • (1 : Mat) - a * (xAt a n * xAt a n)) := fun i j => by
    rw [subf_apply, val_main_v47_apply, val_main_v46_apply, dot_isR hA (dot_isR hX hX), eye_isR]
    show Ideal.ofBits .f32 0x40400000#32 * _ - _ = _
    rw [ofBits_three, ← EReal.coe_mul, ← EReal.coe_sub]
    rfl
  intro i j
  unfold step
  rw [mulf_apply, val_main_v52_apply, dot_isR hX h3]
  show Ideal.ofBits .f32 0x3F000000#32 * _ = _
  rw [ofBits_half, ← EReal.coe_mul]
  rfl

/-- The eight steps from the identity. -/
theorem steps_isR {a : Mat} (hA : IsR (val_main_v45 (F := Ideal) Z C) a) : IsR (val_main_v109 (F := Ideal) Z C) (xAt a 8) := by
  have h1 : IsR (val_main_v53 (F := Ideal) Z C) (xAt a 1) := step_isR hA eye_isR
  have h2 : IsR (val_main_v61 (F := Ideal) Z C) (xAt a 2) := step_isR hA h1
  have h3 : IsR (val_main_v69 (F := Ideal) Z C) (xAt a 3) := step_isR hA h2
  have h4 : IsR (val_main_v77 (F := Ideal) Z C) (xAt a 4) := step_isR hA h3
  have h5 : IsR (val_main_v85 (F := Ideal) Z C) (xAt a 5) := step_isR hA h4
  have h6 : IsR (val_main_v93 (F := Ideal) Z C) (xAt a 6) := step_isR hA h5
  have h7 : IsR (val_main_v101 (F := Ideal) Z C) (xAt a 7) := step_isR hA h6
  exact step_isR hA h7

/-- The scaled root: `√ν · (A X)`, zero where the norm is zero. -/
theorem root_isR {s : Mat} (hS : IsR (val_main_v34 (F := Ideal) Z C) s) :
    IsR (val_main_v113 (F := Ideal) Z C) (Real.sqrt (norm s) • (scaled s * xAt (scaled s) 8)) := by
  intro a b
  rw [val_main_v113_apply, val_main_v112_apply, val_main_v110_apply, norm_isR Z C hS, Matrix.smul_apply, smul_eq_mul]
  show Ideal.sqrt ((norm s : ℝ) : EReal) * val_main_v111 (F := Ideal) Z C (ix2 a b) = ((Real.sqrt (norm s) * (scaled s * xAt (scaled s) 8) a b : ℝ) : EReal)
  rw [sqrt_coe _ (norm_nonneg _)]
  by_cases h0 : norm s = 0
  · rw [h0, Real.sqrt_zero, EReal.coe_zero, zero_mul, zero_mul, EReal.coe_zero]
  · have hA : IsR (val_main_v45 (F := Ideal) Z C) (scaled s) := fun i j => by
      rw [val_main_v45_apply, val_main_v44_apply, norm_isR Z C hS, hS]
      exact div_coe _ _ h0
    have hX : IsR (val_main_v111 (F := Ideal) Z C) (scaled s * xAt (scaled s) 8) := dot_isR hA (steps_isR Z C hA)
    rw [hX, EReal.coe_mul]

/-! ## The trace and the result -/

/-- The trace of the covariances less twice the root. -/
theorem trace_isR {zc cc : Mat} (hz : IsR (val_main_v12 (F := Ideal) Z) zc) (hc : IsR (val_main_v25 (F := Ideal) C) cc) (i : S_.Idx) :
    val_main_v118 (F := Ideal) Z C i = ((covTerm zc cc : ℝ) : EReal) := by
  have hP : IsR (val_main_v30 (F := Ideal) Z C) (zc * cc) := dot_isR hz hc
  have hR := root_isR Z C (sym_isR Z C hP)
  generalize hs : sym (zc * cc) = s at hR
  have hd : ∀ a b, val_main_v117 (F := Ideal) Z C (ix2 a b)
      = ((zc a b + cc a b - 2 * (Real.sqrt (norm s) * (scaled s * xAt (scaled s) 8) a b) : ℝ) : EReal) := fun a b => by
    rw [val_main_v117_apply, val_main_v114_apply, val_main_v116_apply, val_main_v115_apply, hz, hc, hR]
    show _ + _ - Ideal.ofBits .f32 0x40000000#32 * _ = _
    rw [ofBits_two, ← EReal.coe_add, ← EReal.coe_mul, ← EReal.coe_sub]
    rfl
  have hv : ∀ a b, val_main_call2_v6 (F := Ideal) Z C (ix2 a b) = if a = b then val_main_v117 (F := Ideal) Z C (ix2 a b) else 0 := fun a b => by
    have hm : val_main_call2_v4 (F := Ideal) (ix2 a b) = BitVec.ofBool (decide (a = b)) := by
      rw [val_main_call2_v4_apply, val_main_call2_v3_apply, val_main_call2_v0_apply, val_main_call2_v2_apply, val_main_call2_v1_apply]
      show IntOp.cmpi .eq (BitVec.ofNat 32 a.val + 0#32) (BitVec.ofNat 32 b.val) = _
      rw [BitVec.add_zero, eq_word]
    have hz0 : val_main_call2_v5 (F := Ideal) (ix2 a b) = 0 := by rw [val_main_call2_v5_apply]; exact Ideal.ofBits_zero_f32
    rw [val_main_call2_v6_apply, hm, hz0, select_decide]
  rw [val_main_v118_apply]
  show Ideal.ofBits .f32 0x00000000#32 + _ = _
  rw [Ideal.ofBits_zero_f32, zero_add, sum_idx2]
  have he : ∀ a : Fin 256, ∑ b, val_main_call2_v6 (F := Ideal) Z C (ix2 a b)
      = ((zc a a + cc a a - 2 * (Real.sqrt (norm s) * (scaled s * xAt (scaled s) 8) a a) : ℝ) : EReal) := fun a => by
    rw [Finset.sum_eq_single a, hv, if_pos rfl, hd]
    · intro b _ hb
      rw [hv, if_neg fun e => hb e.symm]
    · exact fun h => absurd (Finset.mem_univ a) h
  rw [Finset.sum_congr rfl fun a _ => he a, sum_coe]
  unfold covTerm traceTerm
  rw [hs, Finset.sum_sub_distrib, ← Finset.mul_sum, ← Finset.mul_sum, mul_comm (Real.sqrt (norm s))]

/-- The result in the extended reals' own operations. -/
theorem result_apply (i : S_.Idx) : val_main_v122 (F := Ideal) Z C i
    = Ideal.sqrt ((val_main_v29 (F := Ideal) Z C i + max (val_main_v118 (F := Ideal) Z C i) (Ideal.ofBits .f32 0x00000000#32))
      + Ideal.ofBits .f32 0x2EDBE6FF#32) := rfl

/-- The reference's result is the distance of its arguments. -/
theorem result_eq (i : S_.Idx) : val_main_v122 (F := Ideal) Z C i = dist Z C := by
  refine eq_dist (by decide) (by decide) _ _ _ (fun h => ?_) fun hz hc => ?_
  · obtain ⟨e, he⟩ := ofBits_eps
    rw [result_apply, part_mean, h, Ideal.ofBits_zero_f32, he, top_add_max]
    rfl
  · rw [result_apply, part_mean, trace_isR Z C (cov_z Z hz) (cov_c C hc), Ideal.ofBits_zero_f32]

end Cert.ReferenceIdeal.Word

end
-- ==== Proof.lean ====
/-
  The claim: the three programs run, leave their arguments and end quiescent; the idealization is the kernel's own text; and
  at the extended reals the kernel's result is the reference's, both being the distance of the two arguments
  (`Cert.Distance.dist`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelWord
public import proofs.«01_k».proof.Proof.ReferenceWord
public import Idealize.ShloMosaic.Lib.Quiescent

@[expose] public section

noncomputable section

namespace Cert.Proof

open Idealize.ShloMosaic Idealize.SL.Sem

/-- The reference runs, leaves its arguments, and has no semaphore that could end off zero. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run (F := Ideal) m ρ)

/-- The kernel's run, its result the distance of its arguments. -/
theorem run_kernel (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v1)
          = (fun _ => Cert.Distance.dist (Cert.KernelIdeal.Word.zArr m c) (Cert.KernelIdeal.Word.cArr m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  (θ_run Cert.KernelIdeal.defs _ _).mono
    (fun _ h c => ⟨(h c).1.trans (funext fun _ => Cert.KernelIdeal.Word.word_eq m c), (h c).2⟩)
    (Cert.KernelIdeal.Value.run (F := Ideal) m ρ)

/-- The reference's run, its result the distance of its arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v122)
          = (fun _ => Cert.Distance.dist (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono
    (fun _ h c => ⟨(h c).1.trans ((Cert.ReferenceIdeal.Read.val_main_v122_eq (F := Ideal) _).trans
      (funext fun i => Cert.ReferenceIdeal.Word.result_eq _ _ i)), (h c).2⟩)
    (Cert.ReferenceIdeal.Value.run (F := Ideal) m ρ)

/-- From equal arguments the kernel and the reference end with equal results. -/
theorem equal_results : Cert.algebraic_KernelIdeal_ReferenceIdeal (hKernelIdeal := Cert.KernelIdeal.Gen.facts)
    (hReferenceIdeal := Cert.ReferenceIdeal.Gen.facts) := fun m g m' g' _ hargs =>
  ⟨fun c _ => Cert.Distance.dist (Cert.KernelIdeal.Word.zArr m c) (Cert.KernelIdeal.Word.cArr m c), run_kernel m g,
    (θ_run Cert.ReferenceIdeal.defs _ _).mono
      (fun _ h c => ⟨(h c).1.trans (funext fun _ => congrArg₂ Cert.Distance.dist (hargs c).1 (hargs c).2), (h c).2⟩)
      (run_reference m' g')⟩

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal_results⟩

end Cert.Proof

end
